-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rbf_grid [hPre_rbf_grid : Cert.Pre_rbf_grid.Facts] (m : (ℓ : Loc Cert.KernelIdeal.nD Cert.KernelIdeal.τ Cert.KernelIdeal.sig) → Buf (Elt Ideal) ℓ) : Prop :=
  ∀ c : Dev Cert.KernelIdeal.nD,
    (Cert.Pre_rbf_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rbf_grid [hPre_rbf_grid : Cert.Pre_rbf_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rbf_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rbf_grid [hKernelIdeal : Cert.KernelIdeal.Facts] [hPre_rbf_grid : Cert.Pre_rbf_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rbf_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rbf_grid [hReferenceIdeal : Cert.ReferenceIdeal.Facts] [hPre_rbf_grid : Cert.Pre_rbf_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rbf_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "step" .f32 0xBECCCCCD#32 ((-2 / 5 : ℝ) : EReal)
  ∧ IdealRules.named_const.Statement Cert.KernelIdeal.κ "far" .f32 0x40800000#32 ⊤

def algebraic_KernelIdeal_ReferenceIdeal_pre_rbf_grid [hKernelIdeal : Cert.KernelIdeal.Facts] [hReferenceIdeal : Cert.ReferenceIdeal.Facts] [hPre_rbf_grid : Cert.Pre_rbf_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rbf_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rbf_grid : Cert.Pre_rbf_grid.Facts),
    quiescent_Kernel (hKernel := hKernel)
    ∧ quiescent_KernelIdeal (hKernelIdeal := hKernelIdeal)
    ∧ quiescent_KernelIdeal_pre_rbf_grid (hKernelIdeal := hKernelIdeal) (hPre_rbf_grid := hPre_rbf_grid)
    ∧ quiescent_ReferenceIdeal (hReferenceIdeal := hReferenceIdeal)
    ∧ quiescent_ReferenceIdeal_pre_rbf_grid (hReferenceIdeal := hReferenceIdeal) (hPre_rbf_grid := hPre_rbf_grid)
    ∧ preserves_Kernel_KernelIdeal
    ∧ algebraic_KernelIdeal_ReferenceIdeal_pre_rbf_grid (hKernelIdeal := hKernelIdeal) (hReferenceIdeal := hReferenceIdeal) (hPre_rbf_grid := hPre_rbf_grid)
-- ==== Pre_rbf_grid.lean ====
abbrev S13x32x512x768 : Shape := ⟨4, ![13, 32, 512, 768]⟩
abbrev S11 : Shape := ⟨1, ![11]⟩
abbrev S1x922 : Shape := ⟨2, ![1, 922]⟩
abbrev S1 : Shape := ⟨1, ![1]⟩
abbrev S_ : Shape := ⟨0, ![]⟩

class Facts : Prop where
  slices_S11_S1_0 : S11.Slices ![0] S1
  bcast_S_S11 : S_.BroadcastsInDim S11 (![] : Fin 0 → Fin S11.rank)
  shapeCasts_S1_S_ : S1.ShapeCasts S_
  bcast_S_S1 : S_.BroadcastsInDim S1 (![] : Fin 0 → Fin S1.rank)
  bcast_S1_S11_0 : S1.BroadcastsInDim S11 (![0] : Fin 1 → Fin S11.rank)

variable [Facts]

def fn_part1 {F : FTy → Type} [FloatOps F] (main_v4 : FVec F S1 .f32) (main_v18 : IVec S11 1) (main_v19 : FVec F S1 .f32) : IVec S11 1 :=
  let main_v20 : IVec S1 1 := cmpf .olt main_v4 main_v19
  let main_v21 : IVec S11 1 := broadcastInDim S11 ![0] bcast_S1_S11_0 main_v20
  let main_v22 : IVec S11 1 := andi main_v18 main_v21
  main_v22

def fn {F : FTy → Type} [FloatOps F] (main_arg0 : FVec F S13x32x512x768 .f32) (main_arg1 : FVec F S11 .f32) (main_arg2 : FVec F S11 .f32) (main_arg3 : FVec F S1x922 .f32) (main_arg4 : FVec F S1 .f32) : IVec S11 1 :=
  let main_v0 : IVec S11 32 := iotaInDim S11 32 0
  let main_v1 : FVec F S11 .f32 := sitofp .f32 main_v0
  let main_v2 : FVec F S1 .f32 := (extractStridedSlice S1 ![0] · slices_S11_S1_0) main_arg2
  let main_v3 : FVec F S1 .f32 := (extractStridedSlice S1 ![0] · slices_S11_S1_0) main_arg2
  let main_v4 : FVec F S1 .f32 := mulf main_v2 main_v3
  let main_cst : FVec F S_ .f32 := constant S_ .f32 0x40A00000#32
  let main_v5 : FVec F S11 .f32 := broadcastInDim S11 ![] bcast_S_S11 main_cst
  let main_v6 : FVec F S11 .f32 := mulf main_v5 main_arg1
  let main_cst_0 : FVec F S_ .f32 := constant S_ .f32 0x40A00000#32
  let main_v7 : FVec F S11 .f32 := broadcastInDim S11 ![] bcast_S_S11 main_cst_0
  let main_v8 : FVec F S11 .f32 := subf main_v1 main_v7
  let main_v9 : IVec S11 1 := cmpf .oeq main_v6 main_v8
  let main_v10 : FVec F S1 .f32 := (extractStridedSlice S1 ![0] · slices_S11_S1_0) main_arg2
  let main_v11 : FVec F S_ .f32 := shapeCast S_ main_v10 shapeCasts_S1_S_
  let main_v12 : FVec F S11 .f32 := broadcastInDim S11 ![] bcast_S_S11 main_v11
  let main_v13 : IVec S11 1 := cmpf .oeq main_arg2 main_v12
  let main_v14 : IVec S11 1 := andi main_v9 main_v13
  let main_cst_1 : FVec F S_ .f32 := constant S_ .f32 0x00000000#32
  let main_v15 : FVec F S1 .f32 := broadcastInDim S1 ![] bcast_S_S1 main_cst_1
  let main_v16 : IVec S1 1 := cmpf .ogt main_v4 main_v15
  let main_v17 : IVec S11 1 := broadcastInDim S11 ![0] bcast_S1_S11_0 main_v16
  let main_v18 : IVec S11 1 := andi main_v14 main_v17
  let main_cst_2 : FVec F S_ .f32 := constant S_ .f32 0x7F800000#32
  let main_v19 : FVec F S1 .f32 := broadcastInDim S1 ![] bcast_S_S1 main_cst_2
  fn_part1 (F := F) main_v4 main_v18 main_v19
-- ==== Kernel.lean ====
abbrev S13x32x512x768 : Shape := ⟨4, ![13, 32, 512, 768]⟩
abbrev S11 : Shape := ⟨1, ![11]⟩
abbrev S1x922 : Shape := ⟨2, ![1, 922]⟩
abbrev S1 : Shape := ⟨1, ![1]⟩
abbrev S922 : Shape := ⟨1, ![922]⟩
abbrev S768 : Shape := ⟨1, ![768]⟩
abbrev S1x768 : Shape := ⟨2, ![1, 768]⟩
abbrev S154 : Shape := ⟨1, ![154]⟩
abbrev S14x11 : Shape := ⟨2, ![14, 11]⟩
abbrev S1x11 : Shape := ⟨2, ![1, 11]⟩
abbrev S12x11 : Shape := ⟨2, ![12, 11]⟩
abbrev S13x11 : Shape := ⟨2, ![13, 11]⟩
abbrev S13x11x1 : Shape := ⟨3, ![13, 11, 1]⟩
abbrev S_ : Shape := ⟨0, ![]⟩
abbrev S11x1 : Shape := ⟨2, ![11, 1]⟩
abbrev S2x1x16 : Shape := ⟨3, ![2, 1, 16]⟩
abbrev S1x16x512x768 : Shape := ⟨4, ![1, 16, 512, 768]⟩
abbrev S1x1x16 : Shape := ⟨3, ![1, 1, 16]⟩
abbrev S16x512x768 : Shape := ⟨3, ![16, 512, 768]⟩
abbrev S1x11x1 : Shape := ⟨3, ![1, 11, 1]⟩
abbrev S20x512 : Shape := ⟨2, ![20, 512]⟩
abbrev S1x128x768 : Shape := ⟨3, ![1, 128, 768]⟩
abbrev S128x768 : Shape := ⟨2, ![128, 768]⟩
abbrev S128 : Shape := ⟨1, ![128]⟩
abbrev S128x1 : Shape := ⟨2, ![128, 1]⟩
abbrev S512x768 : Shape := ⟨2, ![512, 768]⟩
abbrev S20x768 : Shape := ⟨2, ![20, 768]⟩
abbrev S512 : Shape := ⟨1, ![512]⟩
abbrev S1x512 : Shape := ⟨2, ![1, 512]⟩
abbrev S11x512 : Shape := ⟨2, ![11, 512]⟩
abbrev S1x1x1 : Shape := ⟨3, ![1, 1, 1]⟩
abbrev S16 : Shape := ⟨1, ![16]⟩
abbrev S1x16 : Shape := ⟨2, ![1, 16]⟩
abbrev S16x1x768 : Shape := ⟨3, ![16, 1, 768]⟩
abbrev S16x768 : Shape := ⟨2, ![16, 768]⟩

abbrev nBuf : Space → Nat
  | .hbm => 32
  | .vmem => 7
  | .smem => 2
  | _ => 0

abbrev bufTy : (tb : Table) → Fin (tcTables nBuf tb) → BufTy
  | .hbm, ⟨0, _⟩ => ⟨S13x32x512x768, .f32⟩
  | .hbm, ⟨1, _⟩ => ⟨S11, .f32⟩
  | .hbm, ⟨2, _⟩ => ⟨S11, .f32⟩
  | .hbm, ⟨3, _⟩ => ⟨S1x922, .f32⟩
  | .hbm, ⟨4, _⟩ => ⟨S1, .f32⟩
  | .hbm, ⟨5, _⟩ => ⟨S922, .f32⟩
  | .hbm, ⟨6, _⟩ => ⟨S768, .f32⟩
  | .hbm, ⟨7, _⟩ => ⟨S1x768, .f32⟩
  | .hbm, ⟨8, _⟩ => ⟨S1x768, .bf16⟩
  | .hbm, ⟨9, _⟩ => ⟨S1x768, .f32⟩
  | .hbm, ⟨10, _⟩ => ⟨S154, .f32⟩
  | .hbm, ⟨11, _⟩ => ⟨S14x11, .f32⟩
  | .hbm, ⟨12, _⟩ => ⟨S14x11, .bf16⟩
  | .hbm, ⟨13, _⟩ => ⟨S14x11, .f32⟩
  | .hbm, ⟨14, _⟩ => ⟨S1x11, .f32⟩
  | .hbm, ⟨15, _⟩ => ⟨S11, .f32⟩
  | .hbm, ⟨16, _⟩ => ⟨S1x11, .f32⟩
  | .hbm, ⟨17, _⟩ => ⟨S11, .f32⟩
  | .hbm, ⟨18, _⟩ => ⟨S11, .f32⟩
  | .hbm, ⟨19, _⟩ => ⟨S1x11, .f32⟩
  | .hbm, ⟨20, _⟩ => ⟨S12x11, .f32⟩
  | .hbm, ⟨21, _⟩ => ⟨S13x11, .f32⟩
  | .hbm, ⟨22, _⟩ => ⟨S13x11x1, .f32⟩
  | .hbm, ⟨23, _⟩ => ⟨S11, .f32⟩
  | .hbm, ⟨24, _⟩ => ⟨S_, .f32⟩
  | .hbm, ⟨25, _⟩ => ⟨S11, .f32⟩
  | .hbm, ⟨26, _⟩ => ⟨S11, .f32⟩
  | .hbm, ⟨27, _⟩ => ⟨S11, .f32⟩
  | .hbm, ⟨28, _⟩ => ⟨S11, .f32⟩
  | .hbm, ⟨29, _⟩ => ⟨S11, .f32⟩
  | .hbm, ⟨30, _⟩ => ⟨S11x1, .f32⟩
  | .hbm, ⟨31, _⟩ => ⟨S2x1x16, .f32⟩
  | .local _ .vmem, ⟨0, _⟩ => ⟨S1x16x512x768, .f32⟩
  | .local _ .vmem, ⟨1, _⟩ => ⟨S1x16x512x768, .f32⟩
  | .local _ .vmem, ⟨2, _⟩ => ⟨S1x768, .f32⟩
  | .local _ .vmem, ⟨3, _⟩ => ⟨S13x11x1, .f32⟩
  | .local _ .vmem, ⟨4, _⟩ => ⟨S11x1, .f32⟩
  | .local _ .vmem, ⟨5, _⟩ => ⟨S1x1x16, .f32⟩
  | .local _ .vmem, ⟨6, _⟩ => ⟨S1x1x16, .f32⟩
  | .local _ .smem, ⟨0, _⟩ => ⟨S11, .f32⟩
  | .local _ .smem, ⟨1, _⟩ => ⟨S1, .f32⟩
  | _, _ => ⟨S13x32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 13], ![false, false]⟩

def k0_off1 (i : grid0.Coords) : Fin 3 → Nat :=
  let arg1 : BitVec 32 := BitVec.ofNat 32 (i 1).val
  let v2 : Index := Scalar.indexCast arg1
  let c0_3 : Index := 0#32
  let c0_4 : Index := 0#32
  ![v2.toNat, 0, 0]
def k0_cond1 (i : grid0.Coords) : BitVec 1 :=
  let arg1 : BitVec 32 := BitVec.ofNat 32 (i 1).val
  let c0_i32 : BitVec 32 := 0#32
  let v1774 : BitVec 1 := Scalar.cmpi .eq arg1 c0_i32
  let v1775 : BitVec 32 := Scalar.extui v1774
  let c0_i32_456 : BitVec 32 := 0#32
  let v1776 : BitVec 1 := Scalar.cmpi .ne v1775 c0_i32_456
  v1776

def k0_cond2 (i : grid0.Coords) : BitVec 1 :=
  let arg1 : BitVec 32 := BitVec.ofNat 32 (i 1).val
  let c0_i32_457 : BitVec 32 := 0#32
  let v1777 : BitVec 1 := Scalar.cmpi .ne arg1 c0_i32_457
  let v1778 : BitVec 32 := Scalar.extui v1777
  let c0_i32_458 : BitVec 32 := 0#32
  let v1779 : BitVec 1 := Scalar.cmpi .ne v1778 c0_i32_458
  v1779

def k0_cond3 (i : grid0.Coords) : BitVec 1 :=
  let arg1 : BitVec 32 := BitVec.ofNat 32 (i 1).val
  let c12_i32 : BitVec 32 := 12#32
  let v1780 : BitVec 1 := Scalar.cmpi .eq arg1 c12_i32
  let v1781 : BitVec 32 := Scalar.extui v1780
  let c0_i32_459 : BitVec 32 := 0#32
  let v1782 : BitVec 1 := Scalar.cmpi .ne v1781 c0_i32_459
  v1782

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S13x11x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "far" => some ⊤
  | "step" => some ((-2 / 5 : ℝ) : EReal)
  | _ => none
-- ==== ReferenceIdeal.lean ====
abbrev S13x32x512x768 : Shape := ⟨4, ![13, 32, 512, 768]⟩
abbrev S11 : Shape := ⟨1, ![11]⟩
abbrev S1x922 : Shape := ⟨2, ![1, 922]⟩
abbrev S1 : Shape := ⟨1, ![1]⟩
abbrev S1x32x512x768 : Shape := ⟨4, ![1, 32, 512, 768]⟩
abbrev S14x32x512x768 : Shape := ⟨4, ![14, 32, 512, 768]⟩
abbrev S14x32x20x768 : Shape := ⟨4, ![14, 32, 20, 768]⟩
abbrev S14x32x492x768 : Shape := ⟨4, ![14, 32, 492, 768]⟩
abbrev S_ : Shape := ⟨0, ![]⟩
abbrev S14x32x20 : Shape := ⟨3, ![14, 32, 20]⟩
abbrev S14x32x20x1 : Shape := ⟨4, ![14, 32, 20, 1]⟩
abbrev S14x32x492 : Shape := ⟨3, ![14, 32, 492]⟩
abbrev S14x32x492x1 : Shape := ⟨4, ![14, 32, 492, 1]⟩
abbrev S14x32x20x492 : Shape := ⟨4, ![14, 32, 20, 492]⟩
abbrev S14x32x20x492x1 : Shape := ⟨5, ![14, 32, 20, 492, 1]⟩
abbrev S1x1x1x1x11 : Shape := ⟨5, ![1, 1, 1, 1, 11]⟩
abbrev S14x32x20x492x11 : Shape := ⟨5, ![14, 32, 20, 492, 11]⟩
abbrev S14x32x11 : Shape := ⟨3, ![14, 32, 11]⟩
abbrev S32x14x11 : Shape := ⟨3, ![32, 14, 11]⟩
abbrev S32x154 : Shape := ⟨2, ![32, 154]⟩
abbrev S32x512x768 : Shape := ⟨3, ![32, 512, 768]⟩
abbrev S32x1x768 : Shape := ⟨3, ![32, 1, 768]⟩
abbrev S32x768 : Shape := ⟨2, ![32, 768]⟩
abbrev S32x922 : Shape := ⟨2, ![32, 922]⟩
abbrev S922x1 : Shape := ⟨2, ![922, 1]⟩
abbrev S32x1 : Shape := ⟨2, ![32, 1]⟩
abbrev S1x1 : Shape := ⟨2, ![1, 1]⟩
abbrev S2x1x16 : Shape := ⟨3, ![2, 1, 16]⟩

abbrev nBuf : Space → Nat
  | .hbm => 59
  | .vmem => 0
  | .smem => 0
  | _ => 0

abbrev bufTy : (tb : Table) → Fin (tcTables nBuf tb) → BufTy
  | .hbm, ⟨0, _⟩ => ⟨S13x32x512x768, .f32⟩
  | .hbm, ⟨1, _⟩ => ⟨S11, .f32⟩
  | .hbm, ⟨2, _⟩ => ⟨S11, .f32⟩
  | .hbm, ⟨3, _⟩ => ⟨S1x922, .f32⟩
  | .hbm, ⟨4, _⟩ => ⟨S1, .f32⟩
  | .hbm, ⟨5, _⟩ => ⟨S1x32x512x768, .f32⟩
  | .hbm, ⟨6, _⟩ => ⟨S14x32x512x768, .f32⟩
  | .hbm, ⟨7, _⟩ => ⟨S14x32x20x768, .f32⟩
  | .hbm, ⟨8, _⟩ => ⟨S14x32x492x768, .f32⟩
  | .hbm, ⟨9, _⟩ => ⟨S14x32x20x768, .f32⟩
  | .hbm, ⟨10, _⟩ => ⟨S_, .f32⟩
  | .hbm, ⟨11, _⟩ => ⟨S14x32x20, .f32⟩
  | .hbm, ⟨12, _⟩ => ⟨S14x32x20x1, .f32⟩
  | .hbm, ⟨13, _⟩ => ⟨S14x32x20x1, .f32⟩
  | .hbm, ⟨14, _⟩ => ⟨S_, .f32⟩
  | .hbm, ⟨15, _⟩ => ⟨S14x32x20x1, .f32⟩
  | .hbm, ⟨16, _⟩ => ⟨S14x32x20x1, .f32⟩
  | .hbm, ⟨17, _⟩ => ⟨S14x32x20x768, .f32⟩
  | .hbm, ⟨18, _⟩ => ⟨S14x32x20x768, .f32⟩
  | .hbm, ⟨19, _⟩ => ⟨S14x32x492x768, .f32⟩
  | .hbm, ⟨20, _⟩ => ⟨S_, .f32⟩
  | .hbm, ⟨21, _⟩ => ⟨S14x32x492, .f32⟩
  | .hbm, ⟨22, _⟩ => ⟨S14x32x492x1, .f32⟩
  | .hbm, ⟨23, _⟩ => ⟨S14x32x492x1, .f32⟩
  | .hbm, ⟨24, _⟩ => ⟨S_, .f32⟩
  | .hbm, ⟨25, _⟩ => ⟨S14x32x492x1, .f32⟩
  | .hbm, ⟨26, _⟩ => ⟨S14x32x492x1, .f32⟩
  | .hbm, ⟨27, _⟩ => ⟨S14x32x492x768, .f32⟩
  | .hbm, ⟨28, _⟩ => ⟨S14x32x492x768, .f32⟩
  | .hbm, ⟨29, _⟩ => ⟨S14x32x20x492, .f32⟩
  | .hbm, ⟨30, _⟩ => ⟨S14x32x20x492x1, .f32⟩
  | .hbm, ⟨31, _⟩ => ⟨S1x1x1x1x11, .f32⟩
  | .hbm, ⟨32, _⟩ => ⟨S14x32x20x492x11, .f32⟩
  | .hbm, ⟨33, _⟩ => ⟨S14x32x20x492x11, .f32⟩
  | .hbm, ⟨34, _⟩ => ⟨S14x32x20x492x11, .f32⟩
  | .hbm, ⟨35, _⟩ => ⟨S14x32x20x492x11, .f32⟩
  | .hbm, ⟨36, _⟩ => ⟨S_, .f32⟩
  | .hbm, ⟨37, _⟩ => ⟨S14x32x20x492x11, .f32⟩
  | .hbm, ⟨38, _⟩ => ⟨S14x32x20x492x11, .f32⟩
  | .hbm, ⟨39, _⟩ => ⟨S11, .f32⟩
  | .hbm, ⟨40, _⟩ => ⟨S1x1x1x1x11, .f32⟩
  | .hbm, ⟨41, _⟩ => ⟨S14x32x20x492x11, .f32⟩
  | .hbm, ⟨42, _⟩ => ⟨S14x32x20x492x11, .f32⟩
  | .hbm, ⟨43, _⟩ => ⟨S14x32x20x492x11, .f32⟩
  | .hbm, ⟨44, _⟩ => ⟨S_, .f32⟩
  | .hbm, ⟨45, _⟩ => ⟨S14x32x11, .f32⟩
  | .hbm, ⟨46, _⟩ => ⟨S32x14x11, .f32⟩
  | .hbm, ⟨47, _⟩ => ⟨S32x154, .f32⟩
  | .hbm, ⟨48, _⟩ => ⟨S1x32x512x768, .f32⟩
  | .hbm, ⟨49, _⟩ => ⟨S32x512x768, .f32⟩
  | .hbm, ⟨50, _⟩ => ⟨S32x1x768, .f32⟩
  | .hbm, ⟨51, _⟩ => ⟨S32x768, .f32⟩
  | .hbm, ⟨52, _⟩ => ⟨S32x922, .f32⟩
  | .hbm, ⟨53, _⟩ => ⟨S922x1, .f32⟩
  | .hbm, ⟨54, _⟩ => ⟨S32x1, .f32⟩
  | .hbm, ⟨55, _⟩ => ⟨S1x1, .f32⟩
  | .hbm, ⟨56, _⟩ => ⟨S32x1, .f32⟩
  | .hbm, ⟨57, _⟩ => ⟨S32x1, .f32⟩
  | .hbm, ⟨58, _⟩ => ⟨S2x1x16, .f32⟩
  | _, _ => ⟨S13x32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.Body.lean ====
/- What the kernel's body computes at one grid point, written once for all sixteen items of a block.

   The printed body repeats one computation sixteen times, cut into several hundred named pieces. Here that computation is
   one definition, `score`, of the block `x`, the item number `i`, the distance scale `c0`, the weights `wl` of the layer
   and the kernels' constants `cc`. The three theorems at the end say that in each of the three cases of the
   body (first layer, middle layer, last layer) what it leaves in the output block is made of these scores. -/
module

public import proofs.«01_k».proof.Proof.Gen.KernelIdeal.Frame
public import Idealize.ShloMosaic.Lib.Tactic
public import Idealize.ShloMosaic.Lib.Pipeline.Value
public import Idealize.ShloMosaic.Lib.Pipeline.ValueKit.Tiles
public import Idealize.ShloMosaic.Lib.Pointwise

@[expose] public section

noncomputable section

namespace Cert.KernelIdeal.Body

open Cert.KernelIdeal Cert.KernelIdeal.Gen Idealize.ShloMosaic Idealize.ShloMosaic.TcCoe Idealize.SL.Sem

variable {F : FTy → Type} [FloatOps F] [Named F]

/-- Item `i`'s rows `o … o + 127` lie inside the block. -/
theorem rowsInside (i o : ℕ) (hi : i < 16) (ho : o + 128 ≤ 512) : S16x512x768.Slices ![i, o, 0] S1x128x768 :=
  ⟨rfl, fun a => match a with
    | ⟨0, _⟩ => (by omega : i + 1 ≤ 16)
    | ⟨1, _⟩ => ho
    | ⟨2, _⟩ => Nat.le_refl 768⟩

/-- 128 rows of item `i` from row `o` on, as the body reads them. -/
def rows (x : FVec F S16x512x768 .f32) (i o : ℕ) (h : S16x512x768.Slices ![i, o, 0] S1x128x768) : FVec F S128x768 .f32 :=
  shapeCast S128x768 (extractStridedSlice S1x128x768 ![i, o, 0] x h) shapeCasts_S1x128x768_S128x768

/-- Rows divided by their norms: each row is multiplied by one over the larger of its norm and `1e-8`. -/
def unitRows (r : FVec F S128x768 .f32) : FVec F S128x768 .bf16 :=
  truncf .bf16 (mulf r (broadcastTo S128x768
    (divf (broadcast S128x1 (Scalar.ofBits .f32 0x3F800000#32))
      (maximumf (sqrt (shapeCast S128x1 (multiReduction .add [1] S128 (mulf r r) 0x00000000#32 reduces_S128x768_S128 (.inl rfl) rfl) shapeCasts_S128_S128x1))
        (broadcast S128x1 (Scalar.ofBits .f32 0x322BCC77#32))))
    broadcasts_S128x1_S128x768)) bitsLt_bf16_f32

/-- Item `i`'s similarities: each of the first 20 normalized rows against all 512; the columns outside the mask `ok` are set
    to the far value. -/
def sims (x : FVec F S16x512x768 .f32) (ok : IVec S20x512 1) (i : ℕ) (hi : i < 16) : FVec F S20x512 .f32 :=
  select ok
    (matmul dot_S20x768_S512x768_S20x512_1_1_0_0_n_n none
      (extractStridedSlice S20x768 ![0, 0] (unitRows (rows x i 0 (rowsInside i 0 hi (by decide)))) slices_S128x768_o0_0_S20x768)
      (concatenate S512x768 0 [⟨S128x768, unitRows (rows x i 0 (rowsInside i 0 hi (by decide)))⟩, ⟨S128x768, unitRows (rows x i 128 (rowsInside i 128 hi (by decide)))⟩,
        ⟨S128x768, unitRows (rows x i 256 (rowsInside i 256 hi (by decide)))⟩, ⟨S128x768, unitRows (rows x i 384 (rowsInside i 384 hi (by decide)))⟩]
        concatenates_S128x768_S128x768_S128x768_S128x768_S512x768_d0)
      (constant S20x512 .f32 0x00000000#32))
    (broadcast S20x512 (Named.named κ "far" 0x40800000#32))

/-- The power of the middle kernel: `exp (c0 · s · s)`. -/
def mid (c0 : F .f32) (s : FVec F S20x512 .f32) : FVec F S20x512 .f32 :=
  exp (mulf (mulf (broadcast S20x512 c0) s) s)

/-- The factor from one kernel to the next one up: `exp (c0 · step · s)`. -/
def up (c0 : F .f32) (s : FVec F S20x512 .f32) : FVec F S20x512 .f32 :=
  exp (mulf (broadcast S20x512 (Scalar.mulf c0 (Named.named κ "step" 0xBECCCCCD#32))) s)

/-- The factor from one kernel to the next one down: one over `up`. -/
def down (c0 : F .f32) (s : FVec F S20x512 .f32) : FVec F S20x512 .f32 :=
  divf (broadcast S20x512 (Scalar.ofBits .f32 0x3F800000#32)) (up c0 s)

/-- `n` factors `f` applied to `z` one after another. -/
def climb (z f : FVec F S20x512 .f32) : ℕ → FVec F S20x512 .f32
  | 0 => z
  | n + 1 => mulf (climb z f n) f

/-- The sum of one kernel's values over the 20 query rows. -/
def overQueries (p : FVec F S20x512 .f32) : FVec F S1x512 .f32 :=
  shapeCast S1x512 (multiReduction .add [0] S512 p 0x00000000#32 reduces_S20x512_S512 (.inl rfl) rfl) shapeCasts_S512_S1x512

/-- The eleven pooled sums of one item, before the kernels' own constants. -/
def pooled (c0 : F .f32) (s : FVec F S20x512 .f32) : FVec F S11x1 .f32 :=
  shapeCast S11x1 (multiReduction .add [1] S11
    (concatenate S11x512 0 [⟨S1x512, overQueries (climb (mid c0 s) (down c0 s) 5)⟩, ⟨S1x512, overQueries (climb (mid c0 s) (down c0 s) 4)⟩,
      ⟨S1x512, overQueries (climb (mid c0 s) (down c0 s) 3)⟩, ⟨S1x512, overQueries (climb (mid c0 s) (down c0 s) 2)⟩,
      ⟨S1x512, overQueries (climb (mid c0 s) (down c0 s) 1)⟩, ⟨S1x512, overQueries (mid c0 s)⟩,
      ⟨S1x512, overQueries (climb (mid c0 s) (up c0 s) 1)⟩, ⟨S1x512, overQueries (climb (mid c0 s) (up c0 s) 2)⟩,
      ⟨S1x512, overQueries (climb (mid c0 s) (up c0 s) 3)⟩, ⟨S1x512, overQueries (climb (mid c0 s) (up c0 s) 4)⟩,
      ⟨S1x512, overQueries (climb (mid c0 s) (up c0 s) 5)⟩]
      concatenates_S1x512_S1x512_S1x512_S1x512_S1x512_S1x512_S1x512_S1x512_S1x512_S1x512_S1x512_S11x512_d0)
    0x00000000#32 reduces_S11x512_S11 (.inl rfl) rfl) shapeCasts_S11_S11x1

/-- The weighted sum of an item's pooled values. -/
def weigh (p cc wl : FVec F S11x1 .f32) : F .f32 :=
  extractAt ![0, 0, 0] (shapeCast S1x1x1 (multiReduction .add [1, 2] S1
    (shapeCast S1x11x1 (mulf (extf .f32 (truncf .bf16 (mulf p cc) bitsLt_bf16_f32) bitsLt_bf16_f32) wl) shapeCasts_S11x1_S1x11x1)
    0x00000000#32 reduces_S1x11x1_S1 (.inl rfl) rfl) shapeCasts_S1_S1x1x1) inpos_S1x1x1_p0_0_0

/-- The score item `i` of the block gets from this layer. -/
def score (x : FVec F S16x512x768 .f32) (ok : IVec S20x512 1) (c0 : F .f32) (wl cc : FVec F S11x1 .f32) (i : ℕ) (hi : i < 16) : F .f32 :=
  weigh (pooled c0 (sims x ok i hi)) cc wl

/-- Sixteen numbers as one row. -/
def row (f : (i : ℕ) → i < 16 → F .f32) : FVec F S1x16 .f32 :=
  shapeCast S1x16 (concatenate S16 0 [⟨S1, broadcast S1 (f 0 (by decide))⟩, ⟨S1, broadcast S1 (f 1 (by decide))⟩, ⟨S1, broadcast S1 (f 2 (by decide))⟩,
    ⟨S1, broadcast S1 (f 3 (by decide))⟩, ⟨S1, broadcast S1 (f 4 (by decide))⟩, ⟨S1, broadcast S1 (f 5 (by decide))⟩, ⟨S1, broadcast S1 (f 6 (by decide))⟩,
    ⟨S1, broadcast S1 (f 7 (by decide))⟩, ⟨S1, broadcast S1 (f 8 (by decide))⟩, ⟨S1, broadcast S1 (f 9 (by decide))⟩, ⟨S1, broadcast S1 (f 10 (by decide))⟩,
    ⟨S1, broadcast S1 (f 11 (by decide))⟩, ⟨S1, broadcast S1 (f 12 (by decide))⟩, ⟨S1, broadcast S1 (f 13 (by decide))⟩, ⟨S1, broadcast S1 (f 14 (by decide))⟩,
    ⟨S1, broadcast S1 (f 15 (by decide))⟩] concatenates_S1_S1_S1_S1_S1_S1_S1_S1_S1_S1_S1_S1_S1_S1_S1_S1_S16_d0) shapeCasts_S16_S1x16

/-- The weights of layer `l`, as one column. -/
def layerWeights (x3 : FVec F S13x11x1 .f32) (l : Fin 13) : FVec F S11x1 .f32 := fun j => x3 (ix3 l (j 0) (0 : Fin 1))

/-- The sixteen scores that layer `l` adds. -/
def layer (x0 : FVec F S1x16x512x768 .f32) (x2 : FVec F S11 .f32) (x3 : FVec F S13x11x1 .f32) (x4 : FVec F S11x1 .f32) (l : Fin 13) : FVec F S1x16 .f32 :=
  row (score (k0_pay3 x0) k0_pay6 (x2 (ix1 (0 : Fin 11))) (layerWeights x3 l) x4)

/-! ## The loads -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The row of the weights that a grid point loads is the row of its layer. -/
theorem layerRow (i : grid0.Coords) : k0_off1 i = ![(i 1).val, 0, 0] := by
  have h : (i 1).val < 13 := (i 1).isLt
  have e : (Scalar.indexCast (BitVec.ofNat 32 (i 1).val)).toNat = (i 1).val := by
    show (BitVec.ofNat 32 (i 1).val).toNat = _
    rw [BitVec.toNat_ofNat]; omega
  unfold k0_off1
  simp only [e]

theorem load_x (c : Dev nD) (arg2 : Memref sig .tc .vmem S1x16x512x768 .f32) (harg2 : arg2.IsWhole) (x0 : Vec F S1x16x512x768 .f32) :
    kernelRun0_A.sl.r_1 c arg2 harg2 x0 = k0_pay3 x0 := by
  unfold kernelRun0_A.sl.r_1
  rw [View.readAt_eq_ld, harg2.read_unread, View.ld_unit_zero (S := S1x16x512x768) hz4]

theorem load_c (c : Dev nD) (arg4 : Memref sig .tc .smem S11 .f32) (harg4 : arg4.IsWhole) (x2 : Vec F S11 .f32) :
    kernelRun0_A.sl.r c arg4 harg4 x2 = x2 (ix1 (0 : Fin 11)) := by
  unfold kernelRun0_A.sl.r
  rw [View.readAt_eq_ld, harg4.read_unread]
  exact View.ld_unit_apply_of _ _ _ _ _ _ (fun a => by fin_cases a; rfl)

theorem load_b (c : Dev nD) (arg7 : Memref sig .tc .smem S1 .f32) (harg7 : arg7.IsWhole) (x5 : Vec F S1 .f32) :
    kernelRun0_A.sl.r_133 c arg7 harg7 x5 = x5 (ix1 (0 : Fin 1)) := by
  unfold kernelRun0_A.sl.r_133
  rw [View.readAt_eq_ld, harg7.read_unread]
  exact View.ld_unit_apply_of _ _ _ _ _ _ (fun a => by fin_cases a; rfl)

theorem load_weights (c : Dev nD) (i : grid0.Coords) (arg5 : Memref sig .tc .vmem S13x11x1 .f32) (harg5 : arg5.IsWhole) (x3 : Vec F S13x11x1 .f32) :
    kernelRun0_A.sl.r_2 c i arg5 harg5 x3 = layerWeights x3 (i 1) := by
  unfold kernelRun0_A.sl.r_2
  rw [View.readAt_eq_ld, harg5.read_unread]
  funext j
  unfold k0_pay4
  dsimp only
  refine (shapeCast_apply (s := S1x11x1) (t := S11x1) _ _ j (ix3 (0 : Fin 1) (j 0) (j 1)) (by rw [Shape.rowMajor_val_two, Shape.rowMajor_val_three]; show (0 * 11 + (j 0).val) * 1 + (j 1).val = (j 0).val * 1 + (j 1).val; omega)).trans ?_
  refine View.ld_unit_apply_of _ _ _ _ _ _ (fun a => ?_)
  have e := congrFun (layerRow i) a
  have h1 : (j 1).val < 1 := (j 1).isLt
  fin_cases a
  · show (i 1).val = k0_off1 i 0 + 0; exact e.symm
  · show (j 0).val = k0_off1 i 1 + (j 0).val; rw [show k0_off1 i 1 = 0 from e]; omega
  · show 0 = k0_off1 i 2 + (j 1).val; rw [show k0_off1 i 2 = 0 from e]; omega

theorem load_consts (c : Dev nD) (arg6 : Memref sig .tc .vmem S11x1 .f32) (harg6 : arg6.IsWhole) (x4 : Vec F S11x1 .f32) :
    kernelRun0_A.sl.r_3 c arg6 harg6 x4 = x4 := by
  unfold kernelRun0_A.sl.r_3
  rw [View.readAt_eq_ld, harg6.read_unread, View.ld_unit_zero (S := S11x1) hz2]
  exact shapeCast_self _ _

/-- The sixteen scores the printed body computes at a grid point are the scores of its layer. -/
theorem scores (c : Dev nD) (i : grid0.Coords) (arg2 : Memref sig .tc .vmem S1x16x512x768 .f32) (harg2 : arg2.IsWhole) (arg4 : Memref sig .tc .smem S11 .f32) (harg4 : arg4.IsWhole) (arg5 : Memref sig .tc .vmem S13x11x1 .f32) (harg5 : arg5.IsWhole) (arg6 : Memref sig .tc .vmem S11x1 .f32) (harg6 : arg6.IsWhole)
    (x0 : Vec F S1x16x512x768 .f32) (x2 : Vec F S11 .f32) (x3 : Vec F S13x11x1 .f32) (x4 : Vec F S11x1 .f32) :
    kernelRun0_A.sl.v1773 c i arg2 harg2 arg4 harg4 arg5 harg5 arg6 harg6 x0 x2 x3 x4 = layer x0 x2 x3 x4 (i 1) := by
  have h : kernelRun0_A.sl.v1773 c i arg2 harg2 arg4 harg4 arg5 harg5 arg6 harg6 x0 x2 x3 x4
      = row (score (kernelRun0_A.sl.r_1 c arg2 harg2 x0) k0_pay6 (kernelRun0_A.sl.r c arg4 harg4 x2)
         (kernelRun0_A.sl.r_2 c i arg5 harg5 x3) (kernelRun0_A.sl.r_3 c arg6 harg6 x4)) := rfl
  rw [h, load_x, load_c, load_weights, load_consts]
  rfl

/-! ## The three cases -/

/-- First layer: the scores plus the bias. -/
theorem out_A (c : Dev nD) (i : grid0.Coords) (arg2 : Memref sig .tc .vmem S1x16x512x768 .f32) (harg2 : arg2.IsWhole) (arg3 : Memref sig .tc .vmem S1x768 .f32) (harg3 : arg3.IsWhole) (arg4 : Memref sig .tc .smem S11 .f32) (harg4 : arg4.IsWhole) (arg5 : Memref sig .tc .vmem S13x11x1 .f32) (harg5 : arg5.IsWhole) (arg6 : Memref sig .tc .vmem S11x1 .f32) (harg6 : arg6.IsWhole) (arg7 : Memref sig .tc .smem S1 .f32) (harg7 : arg7.IsWhole) (arg8 : Memref sig .tc .vmem S1x1x16 .f32) (harg8 : arg8.IsWhole) (hc0 : cond0_0 i) (hc1 : ¬cond0_1 i) (hc2 : ¬cond0_2 i)
    (x0 : Vec F S1x16x512x768 .f32) (x1 : Vec F S1x768 .f32) (x2 : Vec F S11 .f32) (x3 : Vec F S13x11x1 .f32) (x4 : Vec F S11x1 .f32) (x5 : Vec F S1 .f32) :
    out0_A_6 c i arg2 harg2 arg3 harg3 arg4 harg4 arg5 harg5 arg6 harg6 arg7 harg7 arg8 harg8 hc0 hc1 hc2 x0 x1 x2 x3 x4 x5 = k0_pay292 (layer x0 x2 x3 x4 (i 1)) (x5 (ix1 (0 : Fin 1))) := by
  unfold out0_A_6
  rw [View.read_writes_eq_canon _ _ _ (cover0_A_6 c i arg2 harg2 arg3 harg3 arg4 harg4 arg5 harg5 arg6 harg6 arg7 harg7 arg8 harg8 hc0 hc1 hc2 x0 x1 x2 x3 x4 x5)]
  unfold kernelRun0_A
  dsimp only
  rw [View.canon_unit_zero (S := S1x1x16) hz3, scores, load_b]

/-- A middle layer: what was there plus the scores. -/
theorem out_B (c : Dev nD) (i : grid0.Coords) (arg2 : Memref sig .tc .vmem S1x16x512x768 .f32) (harg2 : arg2.IsWhole) (arg3 : Memref sig .tc .vmem S1x768 .f32) (harg3 : arg3.IsWhole) (arg4 : Memref sig .tc .smem S11 .f32) (harg4 : arg4.IsWhole) (arg5 : Memref sig .tc .vmem S13x11x1 .f32) (harg5 : arg5.IsWhole) (arg6 : Memref sig .tc .vmem S11x1 .f32) (harg6 : arg6.IsWhole) (arg7 : Memref sig .tc .smem S1 .f32) (harg7 : arg7.IsWhole) (arg8 : Memref sig .tc .vmem S1x1x16 .f32) (harg8 : arg8.IsWhole) (hc0 : ¬cond0_0 i) (hc1 : cond0_1 i) (hc2 : ¬cond0_2 i)
    (x0 : Vec F S1x16x512x768 .f32) (x1 : Vec F S1x768 .f32) (x2 : Vec F S11 .f32) (x3 : Vec F S13x11x1 .f32) (x4 : Vec F S11x1 .f32) (x5 : Vec F S1 .f32) (xo6 : Vec F S1x1x16 .f32) :
    out0_B_6 c i arg2 harg2 arg3 harg3 arg4 harg4 arg5 harg5 arg6 harg6 arg7 harg7 arg8 harg8 hc0 hc1 hc2 x0 x1 x2 x3 x4 x5 xo6 = k0_pay1 (layer x0 x2 x3 x4 (i 1)) xo6 := by
  unfold out0_B_6
  rw [View.read_writes_eq_canon _ _ _ (cover0_B_6 c i arg2 harg2 arg3 harg3 arg4 harg4 arg5 harg5 arg6 harg6 arg7 harg7 arg8 harg8 hc0 hc1 hc2 x0 x1 x2 x3 x4 x5 xo6)]
  unfold kernelRun0_B
  dsimp only
  rw [View.canon_unit_zero (S := S1x1x16) hz3, View.readAt_eq_ld, harg8.read_unread, View.ld_unit_zero (S := S1x1x16) hz3]
  exact congrArg (k0_pay1 · xo6) (scores c i arg2 harg2 arg4 harg4 arg5 harg5 arg6 harg6 x0 x2 x3 x4)

/-- The last layer: what was there plus the scores, and then the products of the first rows with the class weights. -/
theorem out_C (c : Dev nD) (i : grid0.Coords) (arg2 : Memref sig .tc .vmem S1x16x512x768 .f32) (harg2 : arg2.IsWhole) (arg3 : Memref sig .tc .vmem S1x768 .f32) (harg3 : arg3.IsWhole) (arg4 : Memref sig .tc .smem S11 .f32) (harg4 : arg4.IsWhole) (arg5 : Memref sig .tc .vmem S13x11x1 .f32) (harg5 : arg5.IsWhole) (arg6 : Memref sig .tc .vmem S11x1 .f32) (harg6 : arg6.IsWhole) (arg7 : Memref sig .tc .smem S1 .f32) (harg7 : arg7.IsWhole) (arg8 : Memref sig .tc .vmem S1x1x16 .f32) (harg8 : arg8.IsWhole) (hc0 : ¬cond0_0 i) (hc1 : cond0_1 i) (hc2 : cond0_2 i)
    (x0 : Vec F S1x16x512x768 .f32) (x1 : Vec F S1x768 .f32) (x2 : Vec F S11 .f32) (x3 : Vec F S13x11x1 .f32) (x4 : Vec F S11x1 .f32) (x5 : Vec F S1 .f32) (xo6 : Vec F S1x1x16 .f32) :
    out0_C_6 c i arg2 harg2 arg3 harg3 arg4 harg4 arg5 harg5 arg6 harg6 arg7 harg7 arg8 harg8 hc0 hc1 hc2 x0 x1 x2 x3 x4 x5 xo6 = k0_pay2 (k0_pay3 x0) x1 (k0_pay1 (layer x0 x2 x3 x4 (i 1)) xo6) := by
  unfold out0_C_6
  rw [View.read_writes_eq_canon _ _ _ (cover0_C_6 c i arg2 harg2 arg3 harg3 arg4 harg4 arg5 harg5 arg6 harg6 arg7 harg7 arg8 harg8 hc0 hc1 hc2 x0 x1 x2 x3 x4 x5 xo6)]
  unfold kernelRun0_C
  dsimp only
  rw [View.canon_cons_unit_zero (S := S1x1x16) hz3, View.readAt_eq_ld, harg3.read_unread, View.ld_unit_zero (S := S1x768) hz2]
  have hx : kernelRun0_C.sl.r_1 c arg2 harg2 x0 = k0_pay3 x0 := load_x c arg2 harg2 x0
  have hs : kernelRun0_C.sl.v1773 c i arg2 harg2 arg4 harg4 arg5 harg5 arg6 harg6 x0 x2 x3 x4 = layer x0 x2 x3 x4 (i 1) :=
    scores c i arg2 harg2 arg4 harg4 arg5 harg5 arg6 harg6 x0 x2 x3 x4
  have hv : kernelRun0_C.sl.v1792 c i arg2 harg2 arg4 harg4 arg5 harg5 arg6 harg6 arg8 harg8 x0 x2 x3 x4 xo6 = k0_pay1 (layer x0 x2 x3 x4 (i 1)) xo6 := by
    unfold kernelRun0_C.sl.v1792 kernelRun0_C.sl.H6_1
    rw [View.readCov_unit_zero (S := S1x1x16) _ hz3, View.readAt_eq_ld, harg8.read_unread, View.ld_unit_zero (S := S1x1x16) hz3, hs]
  rw [hx, hv]

end Cert.KernelIdeal.Body
-- ==== Proof.Cosine.lean ====
/- Rows divided by their norms, and the cosine of two rows, over the extended reals.

   A row is multiplied by one over the larger of its norm and `1e-8`. The result is always a row of real numbers: a row with an
   infinite entry has an infinite norm, and one over it is zero. So the cosine of any two rows is a real number. -/
module

public import Idealize.ShloMosaic.PureOps.Ideal.Laws
public import Idealize.ShloMosaic.Lib.IdealHost

@[expose] public section

noncomputable section

namespace Cert.Knrm

open Idealize.ShloMosaic

variable {ι : Type} [Fintype ι]

/-- A sum of real numbers, as an extended real. -/
theorem coe_sum {α : Type} (s : Finset α) (f : α → ℝ) : ((∑ a ∈ s, f a : ℝ) : EReal) = ∑ a ∈ s, (f a : EReal) := by
  classical
  induction s using Finset.induction_on with
  | empty => simp
  | insert a s h ih => rw [Finset.sum_insert h, Finset.sum_insert h, EReal.coe_add, ih]

/-- The smallest norm that is divided by: `1e-8` as an f32. -/
def eps : EReal := Ideal.ofBits .f32 0x322BCC77#32

theorem eps_pos : 0 < eps := by
  unfold eps
  simp [Ideal.ofBits, Ideal.ieee, -EReal.coe_mul]

/-- The norm of a row, kept away from zero. -/
def norm (v : ι → EReal) : EReal := max (Ideal.sqrt (∑ k, v k * v k)) eps

theorem norm_pos (v : ι → EReal) : 0 < norm v := lt_of_lt_of_le eps_pos (le_max_right _ _)

/-- A row divided by its norm. -/
def unit (v : ι → EReal) (k : ι) : EReal := v k * (norm v)⁻¹

/-- Multiplying by one over the norm. -/
theorem mul_recip (v : ι → EReal) (k : ι) : v k * Ideal.div 1 (norm v) = unit v k := by
  unfold unit Ideal.div
  rw [if_neg (norm_pos v).ne', one_mul]

/-- Dividing by the norm. -/
theorem div_norm (v : ι → EReal) (k : ι) : Ideal.div (v k) (norm v) = unit v k := by
  unfold unit Ideal.div
  rw [if_neg (norm_pos v).ne']

theorem mul_self_nonneg' (a : EReal) : 0 ≤ a * a := by
  rcases le_total 0 a with h | h
  · exact mul_nonneg h h
  · have h' : 0 ≤ -a := by simpa using h
    simpa using mul_nonneg h' h'

theorem unit_real (v : ι → EReal) (k : ι) : ∃ r : ℝ, unit v k = r := by
  have hn := norm_pos v
  unfold unit
  rcases eq_or_ne (norm v) ⊤ with h | h
  · exact ⟨0, by rw [h]; simp⟩
  · have hs : Ideal.sqrt (∑ k, v k * v k) ≠ ⊤ := fun e => h (by unfold norm; rw [e]; exact max_eq_left le_top)
    have hsum : (∑ k, v k * v k) ≠ ⊤ := fun e => hs (by rw [e]; rfl)
    have hk : v k * v k ≠ ⊤ := fun e => hsum (top_le_iff.1 (by
      rw [← e]; exact Finset.single_le_sum (f := fun k => v k * v k) (fun i _ => mul_self_nonneg' _) (Finset.mem_univ k)))
    have hvt : v k ≠ ⊤ := fun e => hk (by rw [e]; rfl)
    have hvb : v k ≠ ⊥ := fun e => hk (by rw [e]; rfl)
    have hnb : norm v ≠ ⊥ := (lt_trans (EReal.bot_lt_zero) hn).ne'
    lift v k to ℝ using ⟨hvt, hvb⟩ with a
    lift norm v to ℝ using ⟨h, hnb⟩ with b
    exact ⟨a * b⁻¹, by rw [← EReal.coe_inv, ← EReal.coe_mul]⟩

/-- The cosine of two rows. -/
def cosine (v w : ι → EReal) : EReal := ∑ k, unit v k * unit w k

theorem cosine_real (v w : ι → EReal) : ∃ r : ℝ, cosine v w = r := by
  choose a ha using unit_real v
  choose b hb using unit_real w
  refine ⟨∑ k, a k * b k, ?_⟩
  unfold cosine
  rw [coe_sum]
  exact Finset.sum_congr rfl fun k _ => by rw [ha, hb, EReal.coe_mul]

end Cert.Knrm
-- ==== Proof.Gaussian.lean ====
/- The eleven Gaussians from two exponentials.

   The centres are `(k - 5) / 5` for `k = 0 … 10` and every Gaussian has the same factor `c = -1 / (2 σ²)`. Since
   `c (s - μ)² = c s² - 2 c μ s + c μ²`, the Gaussian with centre `n / 5` is `exp (c s²)` times `n` factors `exp (-2/5 c s)` times
   `exp (c μ²)`, and the one with centre `-n / 5` has `n` factors one over that. -/
module

public import proofs.«01_k».proof.Proof.Cosine

@[expose] public section

noncomputable section

namespace Cert.Knrm

open Idealize.ShloMosaic

/-- The value of the constant "step": -2 times the distance of two centres. -/
def step : EReal := ((-2 / 5 : ℝ) : EReal)

/-- Kernel `k` at the similarity `s`, without its own constant: the middle kernel times `k - 5` factors up or `5 - k` factors down. -/
def power (c0 s : EReal) (k : ℕ) : EReal :=
  if k < 5 then Ideal.exp (c0 * s * s) * Ideal.div 1 (Ideal.exp (c0 * step * s)) ^ (5 - k)
  else Ideal.exp (c0 * s * s) * Ideal.exp (c0 * step * s) ^ (k - 5)

/-- The centre of kernel `k`. -/
def centre (k : ℕ) : ℝ := ((k : ℝ) - 5) / 5

theorem exp_coe (r : ℝ) : Ideal.exp (r : EReal) = (Real.exp r : EReal) := rfl

theorem div_one_exp (r : ℝ) : Ideal.div 1 (Real.exp r : EReal) = (Real.exp (-r) : EReal) := by
  unfold Ideal.div
  have h : ((Real.exp r : ℝ) : EReal) ≠ 0 := by
    intro e; exact (Real.exp_pos r).ne' (by exact_mod_cast e)
  rw [if_neg h, one_mul, Real.exp_neg, EReal.coe_inv]

/-- At a real similarity `power` is a real number. -/
theorem power_real (c r : ℝ) (k : ℕ) :
    power c r k = (Real.exp (c * r * r + ((k : ℝ) - 5) * (c * (-2 / 5) * r)) : EReal) := by
  unfold power step
  rw [← EReal.coe_mul, ← EReal.coe_mul, ← EReal.coe_mul, ← EReal.coe_mul, exp_coe, exp_coe, div_one_exp]
  split
  case isTrue h =>
    rw [← EReal.coe_pow, ← EReal.coe_mul, ← Real.exp_nat_mul, ← Real.exp_add, Nat.cast_sub h.le]
    congr 2; push_cast; ring
  case isFalse h =>
    rw [← EReal.coe_pow, ← EReal.coe_mul, ← Real.exp_nat_mul, ← Real.exp_add, Nat.cast_sub (not_lt.1 h)]
    congr 2

/-- An infinitely distant column adds nothing. -/
theorem power_top (c : ℝ) (hc : c < 0) (k : ℕ) : power c ⊤ k = 0 := by
  have h : Ideal.exp ((c : EReal) * ⊤ * ⊤) = 0 := by
    rw [EReal.coe_mul_top_of_neg hc, EReal.bot_mul_top]; rfl
  unfold power
  rw [h, zero_mul, zero_mul, ite_self]

/-- `power` times the kernel's own constant is the Gaussian. -/
theorem power_mul (c r : ℝ) (k : ℕ) :
    power c r k * Ideal.exp ((c : EReal) * (centre k : EReal) * (centre k : EReal)) = (Real.exp (c * (r - centre k) ^ 2) : EReal) := by
  rw [power_real, ← EReal.coe_mul, ← EReal.coe_mul, exp_coe, ← EReal.coe_mul, ← Real.exp_add]
  congr 2
  unfold centre
  ring

/-- The sum of kernel `k` over 20 query rows and the 492 rows after them. -/
def feature (c : ℝ) (X : Fin 512 → Fin 768 → EReal) (k : ℕ) : ℝ :=
  ∑ q : Fin 20, ∑ d : Fin 492,
    Real.exp (c * ((cosine (X (Fin.castLE (by decide) q)) (X (Fin.natAdd 20 d))).toReal - centre k) ^ 2)

theorem feature_nonneg (c : ℝ) (X : Fin 512 → Fin 768 → EReal) (k : ℕ) : 0 ≤ feature c X k :=
  Finset.sum_nonneg fun _ _ => Finset.sum_nonneg fun _ _ => (Real.exp_pos _).le

/-- The similarity with the first 20 columns masked out. -/
def masked (X : Fin 512 → Fin 768 → EReal) (q : Fin 20) (d : Fin 512) : EReal :=
  if 20 ≤ d.val then cosine (X (Fin.castLE (by decide) q)) (X d) else ⊤

/-- All 512 columns, the first 20 masked, pooled by the powers and multiplied by the kernel's constant, give the sum of the
    Gaussians over the other 492. -/
theorem pooled_eq (c : ℝ) (hc : c < 0) (X : Fin 512 → Fin 768 → EReal) (k : ℕ) :
    (∑ d : Fin 512, ∑ q : Fin 20, power c (masked X q d) k) * Ideal.exp ((c : EReal) * (centre k : EReal) * (centre k : EReal))
      = (feature c X k : EReal) := by
  have hr : ∀ v w : Fin 768 → EReal, cosine v w = ((cosine v w).toReal : EReal) := fun v w => by
    obtain ⟨r, h⟩ := cosine_real v w; rw [h, EReal.toReal_coe]
  have hsplit : (∑ d : Fin 512, ∑ q : Fin 20, power c (masked X q d) k)
      = ((∑ d : Fin 492, ∑ q : Fin 20, Real.exp (c * (cosine (X (Fin.castLE (by decide) q)) (X (Fin.natAdd 20 d))).toReal * (cosine (X (Fin.castLE (by decide) q)) (X (Fin.natAdd 20 d))).toReal + ((k : ℝ) - 5) * (c * (-2 / 5) * (cosine (X (Fin.castLE (by decide) q)) (X (Fin.natAdd 20 d))).toReal)) : ℝ) : EReal) := by
    rw [show (∑ d : Fin 512, ∑ q : Fin 20, power c (masked X q d) k) = ∑ d : Fin (20 + 492), ∑ q : Fin 20, power c (masked X q d) k from rfl,
      Fin.sum_univ_add]
    rw [Finset.sum_eq_zero (s := (Finset.univ : Finset (Fin 20))) (fun d _ => Finset.sum_eq_zero fun q _ => by
      have h : ¬ 20 ≤ (Fin.castAdd 492 d).val := by have := d.isLt; simp only [Fin.val_castAdd]; omega
      unfold masked
      rw [if_neg h]
      exact power_top c hc k), zero_add, coe_sum]
    refine Finset.sum_congr rfl fun d _ => ?_
    rw [coe_sum]
    refine Finset.sum_congr rfl fun q _ => ?_
    have h : 20 ≤ (Fin.natAdd 20 d).val := by simp only [Fin.val_natAdd]; omega
    unfold masked
    rw [if_pos h, hr, power_real, EReal.toReal_coe]
  rw [hsplit, ← EReal.coe_mul, ← EReal.coe_mul, exp_coe, ← EReal.coe_mul]
  congr 1
  unfold feature
  rw [Finset.sum_comm, Finset.sum_mul]
  refine Finset.sum_congr rfl fun q _ => ?_
  rw [Finset.sum_mul]
  refine Finset.sum_congr rfl fun d _ => ?_
  rw [← Real.exp_add]
  congr 1
  unfold centre
  ring

end Cert.Knrm
-- ==== Proof.Item.lean ====
/- One item's score over the extended reals: what the definitions of `Body` compute, read at an index and met with the
   mathematics of `Gaussian`. -/
module

public import proofs.«01_k».proof.Proof.Body
public import proofs.«01_k».proof.Proof.Gaussian
public import Idealize.ShloMosaic.Lib.Pointwise

@[expose] public section

noncomputable section

namespace Cert.KernelIdeal.Body

open Cert.KernelIdeal Cert.KernelIdeal.Gen Idealize.ShloMosaic Cert.Knrm

theorem named_far : (Named.named (F := Ideal) κ "far" (φ := .f32) 0x40800000#32 : EReal) = ⊤ :=
  IdealRules.named_const.ideal_named_scalar _ _ _ _ rfl

theorem named_step : (Named.named (F := Ideal) κ "step" (φ := .f32) 0xBECCCCCD#32 : EReal) = step :=
  IdealRules.named_const.ideal_named_scalar _ _ _ _ rfl

/-- A column number compared with 20, as the mask does. -/
theorem column_select (d : Fin 512) (a b : EReal) :
    (Scalar.select (IntOp.cmpi .sge (BitVec.ofNat 32 d.val) 20#32) a b : EReal) = if 20 ≤ d.val then a else b := by
  have h : IntOp.cmpi .sge (BitVec.ofNat 32 d.val) 20#32 = BitVec.ofBool (decide (20 ≤ d.val)) := by
    have hd := d.isLt
    show BitVec.ofBool (BitVec.sle 20#32 (BitVec.ofNat 32 d.val)) = _
    congr 1
    rw [BitVec.sle_eq_decide, BitVec.toInt_eq_toNat_cond, BitVec.toInt_eq_toNat_cond]
    simp only [BitVec.toNat_ofNat]
    congr 1
    apply propext
    rw [Nat.mod_eq_of_lt (by omega : d.val < 2 ^ 32), if_pos (by norm_num), if_pos (by omega)]
    norm_cast
  rw [h]
  by_cases hd : 20 ≤ d.val
  · simp [Scalar.select, hd]
  · simp [Scalar.select, hd]

theorem unitRows_apply (r : FVec Ideal S128x768 .f32) (a : Fin 128) (k : Fin 768) :
    unitRows r (ix2 a k) = unit (fun k => r (ix2 a k)) k := by
  rw [← mul_recip]
  pointwise [unitRows]
  rfl

theorem rows_apply (x : FVec Ideal S16x512x768 .f32) (i o : ℕ) (hi : i < 16) (h : S16x512x768.Slices ![i, o, 0] S1x128x768) (a : Fin 128) (k : Fin 768)
    (d : Fin 512) (hd : d.val = o + a.val) : rows x i o h (ix2 a k) = x (ix3 ⟨i, hi⟩ d k) := by
  pointwise [rows]
  congr 2
  exact Fin.ext hd.symm

theorem sims_apply (x : FVec Ideal S16x512x768 .f32) (i : ℕ) (hi : i < 16) (q : Fin 20) (d : Fin 512) :
    sims x k0_pay6 i hi (ix2 q d) = masked (fun d k => x (ix3 ⟨i, hi⟩ d k)) q d := by
  pointwise [sims, k0_pay6]
  rw [column_select, named_far]
  unfold masked cosine
  congr 1
  refine Finset.sum_congr rfl fun k _ => ?_
  have hrow : ∀ (o : ℕ) (ho : o + 128 ≤ 512) (a : Fin 128) (d : Fin 512), d.val = o + a.val →
      unitRows (rows x i o (rowsInside i o hi ho)) (ix2 a k) = unit (fun k => x (ix3 ⟨i, hi⟩ d k)) k := fun o ho a d hd => by
    rw [unitRows_apply]
    congr 1
    funext k
    exact rows_apply x i o hi _ a k d hd
  congr 1
  · exact hrow 0 (by decide) _ _ (by simp)
  · have hd := d.isLt
    split
    · exact hrow 0 (by decide) _ _ (by simp)
    split
    · exact hrow 128 (by decide) _ _ (by simp only []; omega)
    split
    · exact hrow 256 (by decide) _ _ (by simp only []; omega)
    · exact hrow 384 (by decide) _ _ (by simp only []; omega)

theorem climb_apply (z f : FVec Ideal S20x512 .f32) (n : ℕ) (j : S20x512.Idx) : climb z f n j = z j * f j ^ n := by
  induction n with
  | zero => simp [climb]
  | succ n ih =>
    rw [pow_succ, ← mul_assoc, ← ih]
    rfl

theorem mid_apply (c0 : Ideal .f32) (s : FVec Ideal S20x512 .f32) (j : S20x512.Idx) : mid c0 s j = Ideal.exp (c0 * s j * s j) := rfl

theorem up_apply (c0 : Ideal .f32) (s : FVec Ideal S20x512 .f32) (j : S20x512.Idx) : up c0 s j = Ideal.exp (c0 * step * s j) := by
  rw [← named_step]; rfl

theorem down_apply (c0 : Ideal .f32) (s : FVec Ideal S20x512 .f32) (j : S20x512.Idx) : down c0 s j = Ideal.div 1 (Ideal.exp (c0 * step * s j)) := by
  rw [← up_apply, ← Ideal.ofBits_one_f32]; rfl

theorem overQueries_apply (p : FVec Ideal S20x512 .f32) (a : Fin 1) (d : Fin 512) : overQueries p (ix2 a d) = ∑ q : Fin 20, p (ix2 q d) := by
  pointwise [overQueries]

theorem pooled_apply (c0 : Ideal .f32) (s : FVec Ideal S20x512 .f32) (k : Fin 11) :
    pooled c0 s (ix2 k 0) = ∑ d : Fin 512, ∑ q : Fin 20, power c0 (s (ix2 q d)) k := by
  pointwise [pooled]
  refine Finset.sum_congr rfl fun d _ => ?_
  simp only [overQueries_apply, climb_apply, mid_apply, up_apply, down_apply]
  unfold power
  fin_vals k with hk
  all_goals simp [hk]

theorem weigh_apply (p cc wl : FVec Ideal S11x1 .f32) : weigh p cc wl = ∑ k : Fin 11, p (ix2 k 0) * cc (ix2 k 0) * wl (ix2 k 0) := by
  pointwise [weigh]
  simp

/-- The score item `i` gets from a layer with the weights `wl`. -/
theorem score_apply (x : FVec Ideal S16x512x768 .f32) (c0 : Ideal .f32) (wl cc : FVec Ideal S11x1 .f32) (i : ℕ) (hi : i < 16) :
    score x k0_pay6 c0 wl cc i hi
      = ∑ k : Fin 11, (∑ d : Fin 512, ∑ q : Fin 20, power c0 (masked (fun d k => x (ix3 ⟨i, hi⟩ d k)) q d) k) * cc (ix2 k 0) * wl (ix2 k 0) := by
  unfold score
  rw [weigh_apply]
  refine Finset.sum_congr rfl fun k _ => ?_
  rw [pooled_apply]
  simp only [sims_apply]

theorem row_apply (f : (i : ℕ) → i < 16 → Ideal .f32) (a : Fin 1) (i : Fin 16) : row f (ix2 a i) = f i.val i.isLt := by
  pointwise [row]
  fin_vals i with hk
  all_goals simp [hk]

end Cert.KernelIdeal.Body
-- ==== Proof.Blocks.lean ====
/- What the kernel reads at each grid point.  Point `t` is layer `t % 13` of the half `t / 13` of the batch. -/
module

public import proofs.«01_k».proof.Proof.Gen.KernelIdeal.Frame
public import Idealize.ShloMosaic.Lib.Tactic
public import Idealize.ShloMosaic.Lib.Pipeline.Value
public import Idealize.ShloMosaic.Lib.Pointwise

@[expose] public section

noncomputable section

namespace Cert.KernelIdeal.Blocks

open Cert.KernelIdeal Cert.KernelIdeal.Gen Idealize.ShloMosaic Idealize.ShloMosaic.TcCoe

variable {F : FTy → Type} [FloatOps F] [Named F]
variable (m : (ℓ : Loc nD τ sig) → Buf (Elt F) ℓ)

theorem points (t : Fin cfg0.N) : t.val < 26 := lt_of_lt_of_eq t.isLt (show cfg0.N = 26 from N_0)

/-- The half of the batch a point works on. -/
theorem half_val (t : Fin cfg0.N) : (grid0.coords t 0).val = t.val / 13 := by
  have e : (grid0.coords t 0).val = t.val / 13 % 2 := Pipeline.Grid.coords_val t 0 (by decide) rfl
  have := points t
  omega

/-- The layer a point works on. -/
theorem layer_val (t : Fin cfg0.N) : (grid0.coords t 1).val = t.val % 13 := by
  have e : (grid0.coords t 1).val = t.val / 1 % 13 := Pipeline.Grid.coords_val t 1 (by decide) rfl
  omega

theorem word_val (n : ℕ) (h : n < 26) : (BitVec.ofNat 32 n).toNat = n := by simp; omega

/-- The block of hidden states: 16 items of one layer. -/
theorem hidden (c : Dev nD) (t : Fin cfg0.N) (i : Fin 16) (d : Fin 512) (k : Fin 768) (l : Fin 13) (hl : l.val = t.val % 13)
    (b : Fin 32) (hb : b.val = 16 * (t.val / 13) + i.val) :
    (iblk m c 0 t : Vec F S1x16x512x768 .f32) (ix4 (0 : Fin 1) i d k) = m ((c : Thread nD τ).loc main_arg0) (ix4 l b d k) := by
  have h0 := half_val t
  have h1 := layer_val t
  have hp := points t
  have e0 : win0_0.index t 0 = t.val % 13 := by
    show (BitVec.ofNat 32 (grid0.coords t 1).val).toNat = _
    rw [h1]; exact word_val _ (by omega)
  have e1 : win0_0.index t 1 = t.val / 13 := by
    show (BitVec.ofNat 32 (grid0.coords t 0).val).toNat = _
    rw [h0]; exact word_val _ (by omega)
  have e2 : win0_0.index t 2 = 0 := rfl
  have e3 : win0_0.index t 3 = 0 := rfl
  unfold iblk
  rw [View.read_apply]
  show V m c main_arg0 _ = _
  rw [V_main_arg0]
  congr 1
  funext a
  apply Fin.ext
  match a with
  | ⟨0, _⟩ => show win0_0.index t 0 * 1 + 1 * 0 = l.val; omega
  | ⟨1, _⟩ => show win0_0.index t 1 * 16 + 1 * i.val = b.val; omega
  | ⟨2, _⟩ => show win0_0.index t 2 * 512 + 1 * d.val = d.val; omega
  | ⟨3, _⟩ => show win0_0.index t 3 * 768 + 1 * k.val = k.val; omega

/-- The weights of the first token's vector, the same at every point. -/
theorem token_weights (c : Dev nD) (t : Fin cfg0.N) : (iblk m c 1 t : Vec F S1x768 .f32) = V m c main_v4 := by
  funext j
  unfold iblk
  rw [View.read_apply]
  show V m c main_v4 _ = V m c main_v4 _
  exact congrArg _ (funext fun a => Fin.ext (win0_1.rect_emb_val_of_index_zero t a (by fin_cases a <;> rfl) j))

/-- The widths of the kernels, the same at every point. -/
theorem widths (c : Dev nD) (t : Fin cfg0.N) : (iblk m c 2 t : Vec F S11 .f32) = V m c main_v20 := by
  funext j
  unfold iblk
  rw [View.read_apply]
  show V m c main_v20 _ = V m c main_v20 _
  exact congrArg _ (funext fun a => Fin.ext (win0_2.rect_emb_val_of_index_zero t a (by fin_cases a <;> rfl) j))

/-- The weights of the layers, the same at every point. -/
theorem layer_weights (c : Dev nD) (t : Fin cfg0.N) : (iblk m c 3 t : Vec F S13x11x1 .f32) = V m c main_v17 := by
  funext j
  unfold iblk
  rw [View.read_apply]
  show V m c main_v17 _ = V m c main_v17 _
  exact congrArg _ (funext fun a => Fin.ext (win0_3.rect_emb_val_of_index_zero t a (by fin_cases a <;> rfl) j))

/-- The factors the pooled powers are multiplied by, the same at every point. -/
theorem factors (c : Dev nD) (t : Fin cfg0.N) : (iblk m c 4 t : Vec F S11x1 .f32) = V m c main_v24 := by
  funext j
  unfold iblk
  rw [View.read_apply]
  show V m c main_v24 _ = V m c main_v24 _
  exact congrArg _ (funext fun a => Fin.ext (win0_4.rect_emb_val_of_index_zero t a (by fin_cases a <;> rfl) j))

/-- The bias, the same at every point. -/
theorem bias (c : Dev nD) (t : Fin cfg0.N) : (iblk m c 5 t : Vec F S1 .f32) = m ((c : Thread nD τ).loc main_arg4) := by
  funext j
  unfold iblk
  rw [View.read_apply]
  show V m c main_arg4 _ = _
  rw [V_main_arg4]
  exact congrArg _ (funext fun a => Fin.ext (win0_5.rect_emb_val_of_index_zero t a (by fin_cases a <;> rfl) j))

end Cert.KernelIdeal.Blocks
-- ==== Proof.Accumulate.lean ====
/- What the output block holds after each grid point, and what the result array holds at the end.

   The three cases of the body add one layer's scores each: the first starts the block with the bias, the last also adds the
   first token's part. So after the layers `0 … l` of a half of the batch the block holds the bias plus the sum of their scores. -/
module

public import proofs.«01_k».proof.Proof.Item
public import proofs.«01_k».proof.Proof.Blocks
public import proofs.«01_k».proof.Proof.Gen.KernelIdeal.Value

@[expose] public section

noncomputable section

namespace Cert.KernelIdeal.Accumulate

open Cert.KernelIdeal Cert.KernelIdeal.Gen Cert.KernelIdeal.Body Cert.Knrm Idealize.ShloMosaic Idealize.ShloMosaic.TcCoe Idealize.SL.Sem

/-! ## The body's arrays read at an item -/

theorem block_apply (x : FVec Ideal S1x16x512x768 .f32) (i : Fin 16) (d : Fin 512) (k : Fin 768) :
    k0_pay3 x (ix3 i d k) = x (ix4 (0 : Fin 1) i d k) := by
  pointwise [k0_pay3]

theorem start_apply (r : FVec Ideal S1x16 .f32) (b : Ideal .f32) (i : Fin 16) :
    k0_pay292 r b (ix3 (0 : Fin 1) (0 : Fin 1) i) = r (ix2 (0 : Fin 1) i) + b := by
  pointwise [k0_pay292]

theorem add_apply (r : FVec Ideal S1x16 .f32) (o : FVec Ideal S1x1x16 .f32) (i : Fin 16) :
    k0_pay1 r o (ix3 (0 : Fin 1) (0 : Fin 1) i) = o (ix3 (0 : Fin 1) (0 : Fin 1) i) + r (ix2 (0 : Fin 1) i) := by
  pointwise [k0_pay1]

theorem token_apply (x : FVec Ideal S16x512x768 .f32) (w : FVec Ideal S1x768 .f32) (o : FVec Ideal S1x1x16 .f32) (i : Fin 16) :
    k0_pay2 x w o (ix3 (0 : Fin 1) (0 : Fin 1) i)
      = o (ix3 (0 : Fin 1) (0 : Fin 1) i) + ∑ j : Fin 768, x (ix3 i (0 : Fin 512) j) * w (ix2 (0 : Fin 1) j) := by
  pointwise [k0_pay2]

/-- The score of item `b` in layer `l`, from the whole array of hidden states. -/
def layerScore (X : FVec Ideal S13x32x512x768 .f32) (c : FVec Ideal S11 .f32) (w : FVec Ideal S13x11x1 .f32) (cc : FVec Ideal S11x1 .f32)
    (l : Fin 13) (b : Fin 32) : EReal :=
  ∑ k : Fin 11, (∑ d : Fin 512, ∑ q : Fin 20, power (c (ix1 (0 : Fin 11))) (masked (fun d k => X (ix4 l b d k)) q d) k)
    * cc (ix2 k 0) * w (ix3 l k 0)

theorem layer_apply (X : FVec Ideal S13x32x512x768 .f32) (x0 : FVec Ideal S1x16x512x768 .f32) (c : FVec Ideal S11 .f32)
    (w : FVec Ideal S13x11x1 .f32) (cc : FVec Ideal S11x1 .f32) (l : Fin 13) (b : Fin 32) (i : Fin 16)
    (h : ∀ d k, x0 (ix4 (0 : Fin 1) i d k) = X (ix4 l b d k)) :
    layer x0 c w cc l (ix2 (0 : Fin 1) i) = layerScore X c w cc l b := by
  unfold layer layerScore
  rw [row_apply, score_apply]
  simp only [block_apply, Fin.eta, h, layerWeights]
  rfl

variable (m : (ℓ : Loc nD τ sig) → Buf (Elt Ideal) ℓ) (ρ : Dev nD → PrngReg)

/-- The item at row `i` of half `h`. -/
def item (h : ℕ) (hh : h < 2) (i : Fin 16) : Fin 32 := ⟨16 * h + i.val, by omega⟩

/-- The score layer `l` gives to item `b`, from the arrays the kernel reads. -/
def layerAt (c : Dev nD) (l : Fin 13) (b : Fin 32) : EReal :=
  layerScore (m ((c : Thread nD τ).loc main_arg0)) (V m c main_v20) (V m c main_v17) (V m c main_v24) l b

/-- The first token's part of item `b`, from the whole array of hidden states. -/
def tokenScore (X : FVec Ideal S13x32x512x768 .f32) (w : FVec Ideal S1x768 .f32) (b : Fin 32) : EReal :=
  ∑ j : Fin 768, X (ix4 (12 : Fin 13) b (0 : Fin 512) j) * w (ix2 (0 : Fin 1) j)

/-- The first token's part of item `b`, from the arrays the kernel reads. -/
def tokenAt (c : Dev nD) (b : Fin 32) : EReal := tokenScore (m ((c : Thread nD τ).loc main_arg0)) (V m c main_v4) b

/-- The bias. -/
def biasAt (c : Dev nD) : EReal := (m ((c : Thread nD τ).loc main_arg4) : FVec Ideal S1 .f32) (ix1 (0 : Fin 1))

/-- The layer's scores at point `t`, at row `i`. -/
theorem layer_at (c : Dev nD) (t : Fin cfg0.N) (i : Fin 16) (l : Fin 13) (hl : l.val = t.val % 13) (b : Fin 32)
    (hb : b.val = 16 * (t.val / 13) + i.val) :
    layer (F := Ideal) (iblk m c 0 t) (iblk m c 2 t) (iblk m c 3 t) (iblk m c 4 t) (grid0.coords t 1) (ix2 (0 : Fin 1) i) = layerAt m c l b := by
  have e : grid0.coords t 1 = l := Fin.ext ((Blocks.layer_val t).trans hl.symm)
  rw [Blocks.widths, Blocks.layer_weights, Blocks.factors, e]
  exact layer_apply (m ((c : Thread nD τ).loc main_arg0)) _ _ _ _ l b i fun d k => Blocks.hidden m c t i d k l hl b hb

/-- The sum of the scores of the first `n` layers. -/
def firstLayers (c : Dev nD) (n : ℕ) (b : Fin 32) : EReal :=
  ∑ l ∈ Finset.range n, if h : l < 13 then layerAt m c ⟨l, h⟩ b else 0

theorem firstLayers_succ (c : Dev nD) (l : Fin 13) (b : Fin 32) :
    firstLayers m c (l.val + 1) b = firstLayers m c l.val b + layerAt m c l b := by
  unfold firstLayers
  rw [Finset.sum_range_succ, dif_pos l.isLt]

theorem firstLayers_one (c : Dev nD) (b : Fin 32) : firstLayers m c 1 b = layerAt m c 0 b := by
  simp [firstLayers]

theorem firstLayers_all (c : Dev nD) (b : Fin 32) : firstLayers m c 13 b = ∑ l : Fin 13, layerAt m c l b := by
  unfold firstLayers
  rw [Finset.sum_range]
  exact Finset.sum_congr rfl fun l _ => dif_pos l.isLt

/-- What the block holds at row `i` after point `n`: the bias, the scores of the layers so far, and after the last layer the
    first token's part. -/
theorem after_point (c : Dev nD) : ∀ (n : ℕ) (hn : n < cfg0.N) (i : Fin 16) (b : Fin 32) (_ : b.val = 16 * (n / 13) + i.val),
    (outsAt0 m c n hn : FVec Ideal S1x1x16 .f32) (ix3 (0 : Fin 1) (0 : Fin 1) i)
      = biasAt m c + firstLayers m c (n % 13 + 1) b + if n % 13 = 12 then tokenAt m c b else 0 := by
  intro n
  induction n with
  | zero =>
    intro hn i b hb
    rw [outsAt0_A m c ⟨0, hn⟩ rfl (by simp) (by simp), out_A, start_apply,
      layer_at m c ⟨0, hn⟩ i (0 : Fin 13) rfl b hb, Blocks.bias, Nat.zero_mod, zero_add, firstLayers_one,
      if_neg (by decide), add_zero]
    exact add_comm _ _
  | succ n ih =>
    intro hn i b hb
    have hN : n + 1 < 26 := Blocks.points ⟨n + 1, hn⟩
    by_cases h0 : (n + 1) % 13 = 0
    · rw [outsAt0_A m c ⟨n + 1, hn⟩ h0 (by dsimp only; omega) (by dsimp only; omega), out_A, start_apply,
        layer_at m c ⟨n + 1, hn⟩ i (0 : Fin 13) h0.symm b hb, Blocks.bias, h0, zero_add, firstLayers_one,
        if_neg (by decide), add_zero]
      exact add_comm _ _
    · have hl : (n + 1) % 13 = n % 13 + 1 := by omega
      have hd : (n + 1) / 13 = n / 13 := by omega
      have hlt : (n + 1) % 13 < 13 := Nat.mod_lt _ (by decide)
      have prev := ih (Nat.lt_of_succ_lt hn) i b (by rw [hb, hd])
      rw [if_neg (by omega), add_zero, ← hl] at prev
      have step := firstLayers_succ m c ⟨(n + 1) % 13, hlt⟩ b
      have score := layer_at m c ⟨n + 1, hn⟩ i ⟨(n + 1) % 13, hlt⟩ rfl b hb
      by_cases h2 : (n + 1) % 13 = 12
      · rw [outsAt0_C m c ⟨n + 1, hn⟩ h0 (by dsimp only; omega) h2, out_C, token_apply, add_apply, score, if_pos h2]
        dsimp only at step
        rw [step, ← add_assoc (biasAt m c), ← prev]
        refine congrArg _ ?_
        unfold tokenAt tokenScore
        refine Finset.sum_congr rfl fun j _ => ?_
        rw [block_apply, Blocks.token_weights]
        exact congrArg (· * _) (Blocks.hidden m c ⟨n + 1, hn⟩ i (0 : Fin 512) j (12 : Fin 13) h2.symm b hb)
      · rw [outsAt0_B m c ⟨n + 1, hn⟩ h0 (by dsimp only; omega) h2, out_B, add_apply, score, if_neg h2, add_zero]
        dsimp only at step
        rw [step, ← add_assoc (biasAt m c), ← prev]
        rfl

/-- The result array: at `(h, 0, i)` the bias, the scores of all the layers and the first token's part of item `16 h + i`. -/
def result (c : Dev nD) : FVec Ideal S2x1x16 .f32 := fun j =>
  biasAt m c + (∑ l : Fin 13, layerAt m c l (item (j 0).val (j 0).isLt (j 2))) + tokenAt m c (item (j 0).val (j 0).isLt (j 2))

/-- Where the block of point `t` lies in the result array. -/
theorem block_place (t : Fin cfg0.N) :
    win0_6.index t 0 = t.val / 13 ∧ win0_6.index t 1 = 0 ∧ win0_6.index t 2 = 0 := by
  have hp := Blocks.points t
  refine ⟨?_, rfl, rfl⟩
  show (BitVec.ofNat 32 (grid0.coords t 0).val).toNat = _
  rw [Blocks.half_val t]
  exact Blocks.word_val _ (by omega)

/-- Each write-back writes its half of that array. -/
theorem written (c : Dev nD) (t : Fin cfg0.N) (hf : (cfg0.win 6).flush t = true) :
    (dats m 0 c).flushed 6 t = ((cfg0.win 6).blk t).view.read (Elt Ideal) (result m c) := by
  have h12 : t.val % 13 = 12 := (flush0_6 t).mp hf
  have hp := Blocks.points t
  obtain ⟨e0, -, e2⟩ := block_place t
  rw [Value.flushed6]
  funext j
  rw [View.read_apply]
  show (outsAt0 m c t.val t.isLt : FVec Ideal S1x1x16 .f32) j = result m c (((cfg0.win 6).blk t).view.emb j)
  have hj : (j : S1x1x16.Idx) = ix3 (0 : Fin 1) (0 : Fin 1) (j 2) := by
    funext a
    match a with
    | ⟨0, _⟩ => exact Subsingleton.elim (α := Fin 1) _ _
    | ⟨1, _⟩ => exact Subsingleton.elim (α := Fin 1) _ _
    | ⟨2, _⟩ => rfl
  have p0 : ((((cfg0.win 6).blk t).view.emb j : S2x1x16.Idx) 0).val = t.val / 13 := by
    have h : (j 0 : Nat) < 1 := (j 0).isLt
    refine (win0_6.rect_emb_val t j 0).trans ?_
    show win0_6.index t 0 * 1 + _ = _
    omega
  have p2 : (((cfg0.win 6).blk t).view.emb j : S2x1x16.Idx) 2 = j 2 :=
    Fin.ext (win0_6.rect_emb_val_of_index_zero t 2 e2 j)
  refine (congrArg (outsAt0 m c t.val t.isLt : FVec Ideal S1x1x16 .f32) hj).trans
    ((after_point m c t.val t.isLt (j 2) (item (t.val / 13) (by omega) (j 2)) rfl).trans ?_)
  rw [if_pos h12, h12, firstLayers_all]
  unfold result
  have hi : item (((((cfg0.win 6).blk t).view.emb j : S2x1x16.Idx) 0).val) (((((cfg0.win 6).blk t).view.emb j : S2x1x16.Idx) 0).isLt)
      ((((cfg0.win 6).blk t).view.emb j : S2x1x16.Idx) 2) = item (t.val / 13) (by omega) (j 2) :=
    Fin.ext (by rw [p2]; show 16 * _ + _ = 16 * _ + _; rw [p0])
  rw [hi]

/-- The two write-backs cover the result array, so at the end it holds that array. -/
theorem final (c : Dev nD) : (dats m 0 c).arrAt 6 cfg0.N = result m c :=
  (dats m 0 c).arrAt_eq_of_cover 6 (result m c) (written m c) fun (j : S2x1x16.Idx) => by
    have h0 : (j 0).val < 2 := (j 0).isLt
    have h1 : (j 1).val < 1 := (j 1).isLt
    have h2 : (j 2).val < 16 := (j 2).isLt
    have hN : 13 * (j 0).val + 12 < cfg0.N := lt_of_lt_of_eq (by omega : _ < 26) N_0.symm
    obtain ⟨e0, e1, e2⟩ := block_place ⟨13 * (j 0).val + 12, hN⟩
    dsimp only at e0
    refine ⟨⟨13 * (j 0).val + 12, hN⟩, (flush0_6 _).mpr (by dsimp only; omega), ?_⟩
    show j ∈ ((View.whole main_v25).slice (win0_6.rect ⟨13 * (j 0).val + 12, hN⟩)).set
    rw [View.set_slice_whole, Rect.mem_set_unit]
    intro a
    match a with
    | ⟨0, _⟩ =>
      show win0_6.index ⟨13 * (j 0).val + 12, hN⟩ 0 * 1 ≤ (j 0 : Nat) ∧ (j 0 : Nat) < win0_6.index ⟨13 * (j 0).val + 12, hN⟩ 0 * 1 + 1
      omega
    | ⟨1, _⟩ =>
      show win0_6.index ⟨13 * (j 0).val + 12, hN⟩ 1 * 1 ≤ (j 1 : Nat) ∧ (j 1 : Nat) < win0_6.index ⟨13 * (j 0).val + 12, hN⟩ 1 * 1 + 1
      omega
    | ⟨2, _⟩ =>
      show win0_6.index ⟨13 * (j 0).val + 12, hN⟩ 2 * 16 ≤ (j 2 : Nat) ∧ (j 2 : Nat) < win0_6.index ⟨13 * (j 0).val + 12, hN⟩ 2 * 16 + 16
      omega

end Cert.KernelIdeal.Accumulate
-- ==== Proof.Grid.lean ====
/- What the precondition says: the centres are `(k - 5) / 5`, the widths are all equal, and their square is positive and finite. -/
module

public import proofs.«01_k».proof.Pre_rbf_grid
public import proofs.«01_k».proof.Proof.Gaussian
public import Idealize.ShloMosaic.Lib.Pointwise
public import Idealize.ShloMosaic.Lib.IdealHost

@[expose] public section

noncomputable section

namespace Cert.Knrm

open Idealize.ShloMosaic Cert.Pre_rbf_grid

theorem andi_one (a b : BitVec 1) : IntOp.andi a b = 1#1 ↔ a = 1#1 ∧ b = 1#1 := by
  unfold IntOp.andi
  revert a b
  decide

theorem ofBool_one (p : Prop) [Decidable p] : BitVec.ofBool (decide p) = 1#1 ↔ p := by
  by_cases h : p <;> simp [h]

theorem five : Ideal.ofBits .f32 0x40A00000#32 = ((5 : ℝ) : EReal) := by
  simp [Ideal.ofBits, Ideal.ieee, -EReal.coe_mul]
  try norm_num

theorem minus_half : Ideal.ofBits .f32 0xBF000000#32 = ((-1 / 2 : ℝ) : EReal) := by
  simp [Ideal.ofBits, Ideal.ieee, -EReal.coe_mul]
  try norm_num

theorem infinity : Ideal.ofBits .f32 0x7F800000#32 = (⊤ : EReal) := by
  simp [Ideal.ofBits, Ideal.ieee]

theorem count (k : Fin 11) : (FloatOps.sitofp .f32 (BitVec.ofNat 32 k.val) : Ideal .f32) = (((k.val : ℝ)) : EReal) := by
  show (((BitVec.ofNat 32 k.val).toInt : ℝ) : EReal) = _
  have h : (BitVec.ofNat 32 k.val).toInt = (k.val : ℤ) := by
    revert k
    decide
  rw [h]
  norm_cast

/-- Five times the centre being `k - 5` fixes the centre. -/
theorem centre_of (x : EReal) (k : ℕ) (h : ((5 : ℝ) : EReal) * x = ((k : ℝ) : EReal) - ((5 : ℝ) : EReal)) : x = (centre k : EReal) := by
  induction x with
  | bot =>
    rw [EReal.coe_mul_bot_of_pos (by norm_num), ← EReal.coe_sub] at h
    exact absurd h.symm (EReal.coe_ne_bot _)
  | top =>
    rw [EReal.coe_mul_top_of_pos (by norm_num), ← EReal.coe_sub] at h
    exact absurd h.symm (EReal.coe_ne_top _)
  | coe r =>
    have h' : 5 * r = (k : ℝ) - 5 := by exact_mod_cast h
    unfold centre
    exact_mod_cast (by linarith : r = ((k : ℝ) - 5) / 5)

/-- Minus one half divided by a positive number `v`. -/
theorem half_over (v : ℝ) (hv : 0 < v) (x : ℝ) : Ideal.div (((-1 / 2 : ℝ) : EReal) * (x : EReal)) (v : EReal) = ((-1 / (2 * v) * x : ℝ) : EReal) := by
  unfold Ideal.div
  rw [if_neg (by exact_mod_cast hv.ne'), ← EReal.coe_inv, ← EReal.coe_mul, ← EReal.coe_mul]
  refine congrArg _ ?_
  field_simp

theorem grid [Facts] (a0 : FVec Ideal S13x32x512x768 .f32) (mu sg : FVec Ideal S11 .f32) (a3 : FVec Ideal S1x922 .f32) (a4 : FVec Ideal S1 .f32)
    (h : fn a0 mu sg a3 a4 = fun _ => 1#1) :
    ∃ v : ℝ, 0 < v ∧ ∀ k : Fin 11, mu (ix1 k) = (centre k.val : EReal) ∧ sg (ix1 k) * sg (ix1 k) = (v : EReal) := by
  have hk : ∀ k : Fin 11, fn a0 mu sg a3 a4 (ix1 k) = 1#1 := fun k => congrFun h _
  pointwise [fn, fn_part1] at hk
  simp only [andi_one, ofBool_one, five, infinity, count] at hk
  obtain ⟨⟨-, h0⟩, h1⟩ := hk 0
  lift sg (ix1 0) * sg (ix1 0) to ℝ using ⟨h1.ne, (lt_trans EReal.bot_lt_zero h0).ne'⟩ with v hv
  refine ⟨v, by exact_mod_cast h0, fun k => ?_⟩
  obtain ⟨⟨⟨hm, hs⟩, -⟩, -⟩ := hk k
  exact ⟨centre_of _ _ hm, by rw [hs, hv]⟩

end Cert.Knrm
-- ==== Proof.Host.lean ====
/- The small arrays the kernel's host part prepares before the launch, read at an index. -/
module

public import proofs.«01_k».proof.Proof.Gen.KernelIdeal.Frame
public import proofs.«01_k».proof.Proof.Grid
public import Idealize.ShloMosaic.Lib.Tactic
public import Idealize.ShloMosaic.Lib.Claim
public import Idealize.ShloMosaic.Lib.Pointwise
public import Idealize.ShloMosaic.Lib.IdealHost

@[expose] public section

noncomputable section

namespace Cert.KernelIdeal.Host

open Cert.KernelIdeal Cert.KernelIdeal.Gen Idealize.ShloMosaic Idealize.ShloMosaic.TcCoe

variable (m : (ℓ : Loc nD τ sig) → Buf (Elt Ideal) ℓ)

/-- The combine layer's weights, as launched. -/
def weights (c : Dev nD) : FVec Ideal S1x922 .f32 := m ((c : Thread nD τ).loc main_arg3)

theorem token_weights (c : Dev nD) (j : Fin 768) :
    (V m c main_v4 : FVec Ideal S1x768 .f32) (ix2 (0 : Fin 1) j) = weights m c (ix2 (0 : Fin 1) (Fin.castLE (by decide) j)) := by
  have h : (V m c main_v4 : FVec Ideal S1x768 .f32)
      = extf .f32 (truncf .bf16 (shapeCast S1x768 (extractStridedSlice S768 ![0] (shapeCast S922 (weights m c) shapeCasts_S1x922_S922)
          slices_S922_S768_0) shapeCasts_S768_S1x768) bitsLt_bf16_f32) bitsLt_bf16_f32 := by
    unfold weights
    unfold_abbrev_sides
    after_results
    rfl
  rw [h]
  pointwise
  rfl

/-- The position of layer `l`'s weight for kernel `k` among the combine layer's weights. -/
def place (l : ℕ) (hl : l < 14) (k : Fin 11) : Fin 922 := ⟨768 + (11 * l + k.val), by omega⟩

/-- Layer 0 carries the sum of the first two rows of weights (the embedding layer's features are used twice); layer `l` after
    it carries row `l + 1`. -/
theorem layer_weights (c : Dev nD) (l : Fin 13) (k : Fin 11) :
    (V m c main_v17 : FVec Ideal S13x11x1 .f32) (ix3 l k (0 : Fin 1))
      = if l.val = 0 then weights m c (ix2 (0 : Fin 1) (place 0 (by omega) k)) + weights m c (ix2 (0 : Fin 1) (place 1 (by omega) k))
        else weights m c (ix2 (0 : Fin 1) (place (l.val + 1) (by omega) k)) := by
  have h : ∃ w : FVec Ideal S14x11 .f32, w = extf .f32 (truncf .bf16 (shapeCast S14x11 (extractStridedSlice S154 ![768]
        (shapeCast S922 (weights m c) shapeCasts_S1x922_S922) slices_S922_S154_768) shapeCasts_S154_S14x11) bitsLt_bf16_f32) bitsLt_bf16_f32
      ∧ (V m c main_v17 : FVec Ideal S13x11x1 .f32) = shapeCast S13x11x1 (concatenate S13x11 0
        [⟨S1x11, broadcastInDim S1x11 ![1] bcast_S11_S1x11_1 (addf
            (shapeCast S11 (extractStridedSlice S1x11 ![0, 0] w slices_S14x11_S1x11_0_0) shapeCasts_S1x11_S11)
            (shapeCast S11 (extractStridedSlice S1x11 ![1, 0] w slices_S14x11_S1x11_1_0) shapeCasts_S1x11_S11))⟩,
          ⟨S12x11, extractStridedSlice S12x11 ![2, 0] w slices_S14x11_S12x11_2_0⟩]
        concatenates_S1x11_S12x11_S13x11_d0) shapeCasts_S13x11_S13x11x1 := by
    refine ⟨_, rfl, ?_⟩
    unfold weights
    unfold_abbrev_sides
    after_results
    rfl
  obtain ⟨w, hw, h⟩ := h
  have hw' : ∀ (r : Fin 14) (k : Fin 11), w (ix2 r k) = weights m c (ix2 (0 : Fin 1) (place r.val r.isLt k)) := by
    intro r k
    rw [hw]
    pointwise
    refine congrArg _ (congrArg _ (Fin.ext ?_))
    simp [place]
    omega
  rw [h]
  pointwise
  by_cases h0 : l.val = 0
  · simp only [h0, reduceIte, hw']
    simp [hw']
  · simp [h0, hw']
    refine congrArg _ (congrArg _ (Fin.ext ?_))
    simp [place]
    omega

/-- The kernels' centres, as launched. -/
def centres (c : Dev nD) : FVec Ideal S11 .f32 := m ((c : Thread nD τ).loc main_arg1)

/-- The kernels' widths, as launched. -/
def sigmas (c : Dev nD) : FVec Ideal S11 .f32 := m ((c : Thread nD τ).loc main_arg2)

/-- The scales of the squared distances, as the kernel finds them. -/
def scales (c : Dev nD) : FVec Ideal S11 .f32 := V m c main_v20

/-- They are `-1 / (2 σ²)`. -/
theorem scales_apply (c : Dev nD) (k : Fin 11) :
    scales m c (ix1 k) = Ideal.div ((-1 / 2 : ℝ) : EReal) (sigmas m c (ix1 k) * sigmas m c (ix1 k)) := by
  have h : scales m c = Host.divf (broadcastInDim S11 ![] bcast_S_S11 (constant S_ .f32 0xBF000000#32)) (mulf (sigmas m c) (sigmas m c)) := by
    unfold scales sigmas
    unfold_abbrev_sides
    after_results
  rw [h]
  pointwise
  rw [Knrm.minus_half]

/-- The factors the pooled powers are multiplied by. -/
theorem factors_apply (c : Dev nD) (k : Fin 11) :
    (V m c main_v24 : FVec Ideal S11x1 .f32) (ix2 k (0 : Fin 1))
      = Ideal.exp (scales m c (ix1 k) * centres m c (ix1 k) * centres m c (ix1 k)) := by
  have h : (V m c main_v24 : FVec Ideal S11x1 .f32) = shapeCast S11x1 (Host.exp (mulf (mulf (scales m c) (centres m c)) (centres m c)))
      shapeCasts_S11_S11x1 := by
    unfold scales centres
    unfold_abbrev_sides
    after_results
    rfl
  rw [h]
  pointwise

end Cert.KernelIdeal.Host
-- ==== Proof.Reference.lean ====
/- What the reference computes, read at an item. -/
module

public import proofs.«01_k».proof.Proof.Gen.ReferenceIdeal.Read
public import proofs.«01_k».proof.Proof.Grid
public import Idealize.ShloMosaic.Lib.Pointwise
public import Idealize.ShloMosaic.Lib.IdealHost

@[expose] public section

noncomputable section

namespace Cert.ReferenceIdeal.Item

open Cert.ReferenceIdeal Cert.ReferenceIdeal.Gen Cert.ReferenceIdeal.Read Cert.Knrm Idealize.ShloMosaic Idealize.ShloMosaic.TcCoe

variable (X : FVec Ideal S13x32x512x768 .f32) (mu sg : FVec Ideal S11 .f32) (W : FVec Ideal S1x922 .f32) (b : FVec Ideal S1 .f32)

/-- The layer of hidden states used as layer `l` of the fourteen: the first one twice. -/
def source (l : Fin 14) : Fin 13 := ⟨l.val - 1, by omega⟩

theorem layers_apply (l : Fin 14) (i : Fin 32) (d : Fin 512) (k : Fin 768) :
    (val_main_v1 (F := Ideal) X : FVec Ideal S14x32x512x768 .f32) (ix4 l i d k) = X (ix4 (source l) i d k) := by
  pointwise [val_main_v1, val_main_v0]
  by_cases h : l.val < 1
  · rw [dif_pos h]
    exact congrArg X (congrArg (ix4 · i d k) (Fin.ext (by simp [source]; omega)))
  · rw [dif_neg h]
    rfl

theorem query_apply (l : Fin 14) (i : Fin 32) (q : Fin 20) (k : Fin 768) :
    (val_main_v8 (F := Ideal) X : FVec Ideal S14x32x20x768 .f32) (ix4 l i q k) = unit (fun k => X (ix4 (source l) i (Fin.castLE (by decide) q) k)) k := by
  pointwise [val_main_v8, val_main_v7, val_main_v6, val_main_v5, val_main_v4, val_main_v2, val_main_call0_v2, val_main_call0_v1, val_main_call0_v0,
    val_main_cst, val_main_call0_cst]
  simp only [layers_apply]
  exact div_norm (fun k => X (ix4 (source l) i (Fin.castLE (by decide) q) k)) k

theorem document_apply (l : Fin 14) (i : Fin 32) (d : Fin 492) (k : Fin 768) :
    (val_main_v13 (F := Ideal) X : FVec Ideal S14x32x492x768 .f32) (ix4 l i d k) = unit (fun k => X (ix4 (source l) i (Fin.natAdd 20 d) k)) k := by
  pointwise [val_main_v13, val_main_v12, val_main_v11, val_main_v10, val_main_v9, val_main_v3, val_main_call1_v2, val_main_call1_v1, val_main_call1_v0,
    val_main_cst_0, val_main_call1_cst]
  simp only [layers_apply]
  exact div_norm (fun k => X (ix4 (source l) i (Fin.natAdd 20 d) k)) k

theorem cosine_apply (l : Fin 14) (i : Fin 32) (q : Fin 20) (d : Fin 492) :
    (val_main_v14 (F := Ideal) X : FVec Ideal S14x32x20x492 .f32) (ix4 l i q d) = cosine (fun k => X (ix4 (source l) i (Fin.castLE (by decide) q) k)) (fun k => X (ix4 (source l) i (Fin.natAdd 20 d) k)) := by
  pointwise [val_main_v14]
  simp only [query_apply, document_apply]
  rfl

theorem gaussian_apply (l : Fin 14) (i : Fin 32) (q : Fin 20) (d : Fin 492) (k : Fin 11) :
    (val_main_v27 (F := Ideal) X mu sg : FVec Ideal S14x32x20x492x11 .f32) (ix5 l i q d k) = Ideal.exp (Ideal.div (Ideal.ofBits .f32 0xBF000000#32 * (((val_main_v14 (F := Ideal) X : FVec Ideal S14x32x20x492 .f32) (ix4 l i q d) - mu (ix1 k)) * ((val_main_v14 (F := Ideal) X : FVec Ideal S14x32x20x492 .f32) (ix4 l i q d) - mu (ix1 k)))) (sg (ix1 k) * sg (ix1 k))) := by
  pointwise [val_main_v27, val_main_v26, val_main_v25, val_main_v24, val_main_v23, val_main_v22, val_main_v21, val_main_v20, val_main_v19,
    val_main_v18, val_main_v17, val_main_v16, val_main_v15, val_main_cst_1]

theorem pooled_apply (l : Fin 14) (i : Fin 32) (k : Fin 11) :
    (val_main_v28 (F := Ideal) X mu sg : FVec Ideal S14x32x11 .f32) (ix3 l i k) = ∑ q : Fin 20, ∑ d : Fin 492, (val_main_v27 (F := Ideal) X mu sg : FVec Ideal S14x32x20x492x11 .f32) (ix5 l i q d k) := by
  pointwise [val_main_v28, val_main_cst_2]

theorem combined_apply (i : Fin 32) (n : Fin 922) :
    (val_main_v35 (F := Ideal) X mu sg : FVec Ideal S32x922 .f32) (ix2 i n) = if h : n.val < 768 then X (ix4 (12 : Fin 13) i (0 : Fin 512) ⟨n.val, h⟩)
      else (val_main_v28 (F := Ideal) X mu sg : FVec Ideal S14x32x11 .f32) (ix3 (⟨(n.val - 768) / 11, by omega⟩ : Fin 14) i (⟨(n.val - 768) % 11, by omega⟩ : Fin 11)) := by
  pointwise [val_main_v35, val_main_v34, val_main_v33, val_main_v32, val_main_v31, val_main_v30, val_main_v29]

theorem result_apply (h : Fin 2) (i : Fin 16) (a : Fin 32) (ha : a.val = 16 * h.val + i.val) :
    (val_main_v41 (F := Ideal) X mu sg W b : FVec Ideal S2x1x16 .f32) (ix3 h (0 : Fin 1) i) = (∑ n : Fin 922, (val_main_v35 (F := Ideal) X mu sg : FVec Ideal S32x922 .f32) (ix2 a n) * W (ix2 (0 : Fin 1) n)) + b (ix1 (0 : Fin 1)) := by
  pointwise [val_main_v41, val_main_v40, val_main_v39, val_main_v38, val_main_v37, val_main_v36]
  rw [show (⟨h.val * 16 + i.val, by omega⟩ : Fin 32) = a from Fin.ext (by simp only [ha]; omega)]

/-- On the grid of centres, with `v` the squared width, the pooled feature is the sum of the Gaussians. -/
theorem feature_apply (v : ℝ) (hv : 0 < v) (l : Fin 14) (i : Fin 32) (k : Fin 11) (hm : mu (ix1 k) = (centre k.val : EReal))
    (hs : sg (ix1 k) * sg (ix1 k) = (v : EReal)) :
    (val_main_v28 (F := Ideal) X mu sg : FVec Ideal S14x32x11 .f32) (ix3 l i k)
      = (feature (-1 / (2 * v)) (fun d j => X (ix4 (source l) i d j)) k.val : EReal) := by
  rw [pooled_apply]
  unfold feature
  simp only [coe_sum]
  refine Finset.sum_congr rfl fun q _ => Finset.sum_congr rfl fun d _ => ?_
  rw [gaussian_apply, minus_half, hm, hs, cosine_apply]
  obtain ⟨r, hr⟩ := cosine_real (fun k => X (ix4 (source l) i (Fin.castLE (by decide) q) k)) (fun k => X (ix4 (source l) i (Fin.natAdd 20 d) k))
  rw [hr, EReal.toReal_coe, ← EReal.coe_sub, ← EReal.coe_mul, half_over v hv, exp_coe, pow_two]

/-- The position of layer `l`'s weight for kernel `k` among the combine layer's weights. -/
def slot (l : Fin 14) (k : Fin 11) : Fin 922 := ⟨768 + (11 * l.val + k.val), by omega⟩

/-- The 922 weighted terms of the combine layer: the first token's 768, then 11 for each of the fourteen layers. -/
theorem combine_split (f : Fin 922 → EReal) :
    ∑ n, f n = (∑ j : Fin 768, f (Fin.castLE (by decide) j)) + ∑ l : Fin 14, ∑ k : Fin 11, f (slot l k) := by
  refine (Fin.sum_univ_add (a := 768) (b := 154) f).trans (congrArg₂ (· + ·) rfl ?_)
  rw [← Fintype.sum_prod_type']
  refine (Equiv.sum_comp (finProdFinEquiv (m := 14) (n := 11)) fun n => f (Fin.natAdd 768 n)).symm.trans (Finset.sum_congr rfl fun p _ => ?_)
  exact congrArg f (Fin.ext (by simp [slot, finProdFinEquiv]; omega))

/-- What the reference gives item `a`: the bias, the weighted features of the fourteen layers and the weighted first token. -/
theorem reference_apply (v : ℝ) (hv : 0 < v) (hm : ∀ k : Fin 11, mu (ix1 k) = (centre k.val : EReal) ∧ sg (ix1 k) * sg (ix1 k) = (v : EReal))
    (h : Fin 2) (i : Fin 16) (a : Fin 32) (ha : a.val = 16 * h.val + i.val) :
    (val_main_v41 (F := Ideal) X mu sg W b : FVec Ideal S2x1x16 .f32) (ix3 h (0 : Fin 1) i)
      = b (ix1 (0 : Fin 1))
        + (∑ l : Fin 14, ∑ k : Fin 11, (feature (-1 / (2 * v)) (fun d j => X (ix4 (source l) a d j)) k.val : EReal) * W (ix2 (0 : Fin 1) (slot l k)))
        + ∑ j : Fin 768, X (ix4 (12 : Fin 13) a (0 : Fin 512) j) * W (ix2 (0 : Fin 1) (Fin.castLE (by decide) j)) := by
  rw [result_apply X mu sg W b h i a ha, combine_split, add_comm _ (b _), add_assoc, add_comm (∑ j : Fin 768, _)]
  refine congrArg (b (ix1 0) + ·) (congrArg₂ (· + ·) ?_ ?_)
  · refine Finset.sum_congr rfl fun l _ => Finset.sum_congr rfl fun k _ => ?_
    rw [combined_apply, dif_neg (by simp [slot]), ← feature_apply X mu sg v hv l a k (hm k).1 (hm k).2]
    refine congrArg (· * _) (congrArg _ ?_)
    exact congrArg₂ (ix3 · a ·) (Fin.ext (by simp [slot]; omega)) (Fin.ext (by simp [slot]))
  · refine Finset.sum_congr rfl fun j _ => ?_
    rw [combined_apply, dif_pos (by simp)]
    rfl

end Cert.ReferenceIdeal.Item
-- ==== Proof.Equation.lean ====
/- The equation: under the precondition the kernel's result array is the reference's.

   A layer's score is the weighted sum of its eleven features; the kernel adds the weights of the two rows that share the first
   layer's features before multiplying, where the reference multiplies twice. The rest is the order of one sum. -/
module

public import proofs.«01_k».proof.Proof.Accumulate
public import proofs.«01_k».proof.Proof.Host
public import proofs.«01_k».proof.Proof.Reference

@[expose] public section

noncomputable section

namespace Cert.Equation

open Cert.KernelIdeal Cert.KernelIdeal.Gen Cert.KernelIdeal.Accumulate Cert.Knrm Idealize.ShloMosaic Idealize.ShloMosaic.TcCoe
open Cert.ReferenceIdeal.Item (source slot)
open Cert.ReferenceIdeal.Read (val_main_v41)

variable (m : (ℓ : Loc nD τ sig) → Buf (Elt Ideal) ℓ)

/-- The hidden states, as launched. -/
def hidden (c : Dev nD) : FVec Ideal S13x32x512x768 .f32 := m ((c : Thread nD τ).loc main_arg0)

/-- Feature `k` of item `a` in layer `l`, with `v` the squared width. -/
def feat (v : ℝ) (c : Dev nD) (l : Fin 13) (a : Fin 32) (k : Fin 11) : EReal :=
  (feature (-1 / (2 * v)) (fun d j => hidden m c (ix4 l a d j)) k.val : EReal)

/-- A layer's score is the weighted sum of its features. -/
theorem layerAt_eq (v : ℝ) (hv : 0 < v) (c : Dev nD)
    (hg : ∀ k : Fin 11, Host.centres m c (ix1 k) = (centre k.val : EReal) ∧ Host.sigmas m c (ix1 k) * Host.sigmas m c (ix1 k) = (v : EReal))
    (l : Fin 13) (a : Fin 32) :
    layerAt m c l a = ∑ k : Fin 11, feat m v c l a k * (V m c main_v17 : FVec Ideal S13x11x1 .f32) (ix3 l k (0 : Fin 1)) := by
  have hc : -1 / (2 * v) < 0 := div_neg_of_neg_of_pos (by norm_num) (by linarith)
  have hscale : ∀ k : Fin 11, Host.scales m c (ix1 k) = ((-1 / (2 * v) : ℝ) : EReal) := fun k => by
    rw [Host.scales_apply, (hg k).2]
    simpa using half_over v hv 1
  unfold layerAt layerScore
  refine Finset.sum_congr rfl fun k _ => congrArg (· * _) ?_
  refine (congrArg (_ * ·) (Host.factors_apply m c k)).trans ?_
  rw [(hg k).1, hscale k, show (V m c main_v20 : FVec Ideal S11 .f32) (ix1 (0 : Fin 11)) = ((-1 / (2 * v) : ℝ) : EReal) from hscale 0]
  exact pooled_eq _ hc _ k.val

/-- Thirteen layers with the summed first weights are fourteen layers of which the first two are the same. -/
theorem layers_eq (v : ℝ) (c : Dev nD) (a : Fin 32) :
    ∑ l : Fin 13, ∑ k : Fin 11, feat m v c l a k * (V m c main_v17 : FVec Ideal S13x11x1 .f32) (ix3 l k (0 : Fin 1))
      = ∑ l : Fin 14, ∑ k : Fin 11, feat m v c (source l) a k * Host.weights m c (ix2 (0 : Fin 1) (slot l k)) := by
  have hpos : ∀ l k, 0 ≤ feat m v c l a k := fun l k => EReal.coe_nonneg.mpr (feature_nonneg _ _ _)
  rw [Fin.sum_univ_succ (n := 12), Fin.sum_univ_succ (n := 13), Fin.sum_univ_succ (n := 12), ← add_assoc, ← Finset.sum_add_distrib]
  refine congrArg₂ (· + ·) (Finset.sum_congr rfl fun k _ => ?_) (Finset.sum_congr rfl fun l _ => Finset.sum_congr rfl fun k _ => ?_)
  · rw [Host.layer_weights, if_pos (show ((0 : Fin 13) : ℕ) = 0 from rfl)]
    exact EReal.left_distrib_of_nonneg_of_ne_top (hpos 0 k) (EReal.coe_ne_top _) _ _
  · rw [Host.layer_weights, if_neg (by simp)]
    rfl

/-- The kernel's result array is the reference's. -/
theorem result_eq (v : ℝ) (hv : 0 < v) (c : Dev nD)
    (hg : ∀ k : Fin 11, Host.centres m c (ix1 k) = (centre k.val : EReal) ∧ Host.sigmas m c (ix1 k) * Host.sigmas m c (ix1 k) = (v : EReal)) :
    (result m c : FVec Ideal S2x1x16 .f32)
      = val_main_v41 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  obtain ⟨h, i, rfl⟩ : ∃ (h : Fin 2) (i : Fin 16), j = ix3 h (0 : Fin 1) i := by
    refine ⟨j 0, j 2, ?_⟩
    funext a
    match a with
    | ⟨0, _⟩ => rfl
    | ⟨1, _⟩ => exact Subsingleton.elim (α := Fin 1) _ _
    | ⟨2, _⟩ => rfl
  refine Eq.trans ?_ (Cert.ReferenceIdeal.Item.reference_apply (hidden m c) (Host.centres m c) (Host.sigmas m c) (Host.weights m c)
    (m ((c : Thread nD τ).loc main_arg4)) v hv hg h i (item h.val h.isLt i) rfl).symm
  show biasAt m c + (∑ l : Fin 13, layerAt m c l (item h.val h.isLt i)) + tokenAt m c (item h.val h.isLt i) = _
  simp only [layerAt_eq m v hv c hg]
  rw [layers_eq]
  refine congrArg₂ (· + ·) rfl ?_
  unfold tokenAt tokenScore
  refine Finset.sum_congr rfl fun j _ => congrArg (fun w : EReal => hidden m c (ix4 (12 : Fin 13) (item h.val h.isLt i) (0 : Fin 512) j) * w) ?_
  exact Host.token_weights m c j

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The shapes the precondition's operations take. -/
theorem grid_facts : Cert.Pre_rbf_grid.Facts where
  slices_S11_S1_0 := by decide
  bcast_S_S11 := by decide
  shapeCasts_S1_S_ := by decide
  bcast_S_S1 := by decide
  bcast_S1_S11_0 := by decide

/-- The reference has no semaphore, so beside its run there is nothing to count. -/
theorem reference_frame : Cert.quiescent_ReferenceIdeal :=
  fun m ρ _ => (θ_run _ _ _).mono (fun r h => ⟨fun c => (h c).2, sem_eq_zero_of_no_sems (by decide) r.2⟩) (Cert.ReferenceIdeal.Value.run m ρ)

/-- The two named constants stand for the kernel's own literals. -/
theorem named : Cert.preserves_Kernel_KernelIdeal :=
  ⟨IdealRules.named_const.statement Cert.KernelIdeal.κ "step" .f32 0xBECCCCCD#32 _ rfl,
    IdealRules.named_const.statement Cert.KernelIdeal.κ "far" .f32 0x40800000#32 _ rfl⟩

/-- From equal arguments that meet the precondition, both programs end with the same scores. -/
theorem value : Cert.algebraic_KernelIdeal_ReferenceIdeal_pre_rbf_grid (hPre_rbf_grid := grid_facts) := by
  intro m g m' g' hpre hargs
  refine ⟨fun c => Cert.KernelIdeal.Accumulate.result m c, ?_, ?_⟩
  · refine (θ_run _ _ _).mono (fun r h c => ?_) (Cert.KernelIdeal.Value.run_blocks m g)
    exact ⟨(h c).1.trans (Cert.KernelIdeal.Accumulate.final m c), (h c).2⟩
  · refine (θ_run _ _ _).mono (fun r h c => ?_) (Cert.ReferenceIdeal.Value.run m' g')
    obtain ⟨v, hv, hg⟩ := @Cert.Knrm.grid grid_facts _ _ _ _ _ (hpre c)
    refine ⟨(h c).1.trans ((Cert.ReferenceIdeal.Read.val_main_v41_eq m' c).trans ?_), (h c).2⟩
    obtain ⟨h0, h1, h2, h3, h4⟩ := hargs c
    rw [h0, h1, h2, h3, h4]
    exact (Cert.Equation.result_eq m v hv c hg).symm

theorem claim : Cert.Claim :=
  ⟨Cert.Kernel.Gen.facts, Cert.KernelIdeal.Gen.facts, Cert.ReferenceIdeal.Gen.facts, grid_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    named, value⟩

end Cert.Proof

end
